-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "freq_step" .f32 0xBE135D8E#32 ((-((Real.log 10000) * (1 / 64)) : ℝ) : EReal)
  ∧ IdealRules.named_const.Statement Cert.KernelIdeal.κ "logit_scale" .f32 0x3E0293EE#32 (((Real.sqrt 128)⁻¹ * (Real.log 2)⁻¹ : ℝ) : EReal)
  ∧ IdealRules.named_const.Statement Cert.KernelIdeal.κ "mask" .f32 0xCE6E6B28#32 ⊥

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1x16x2048x128 : Shape := ⟨4, ![1, 16, 2048, 128]⟩
abbrev S1x2048 : Shape := ⟨2, ![1, 2048]⟩
abbrev S_ : Shape := ⟨0, ![]⟩
abbrev S2048 : Shape := ⟨1, ![2048]⟩
abbrev S1x2048x1 : Shape := ⟨3, ![1, 2048, 1]⟩
abbrev S16x2048x128 : Shape := ⟨3, ![16, 2048, 128]⟩
abbrev S16x128x2048 : Shape := ⟨3, ![16, 128, 2048]⟩
abbrev S16x128x21 : Shape := ⟨3, ![16, 128, 21]⟩
abbrev S16x2048x2 : Shape := ⟨3, ![16, 2048, 2]⟩
abbrev S16x128x20 : Shape := ⟨3, ![16, 128, 20]⟩
abbrev S16x2048x1 : Shape := ⟨3, ![16, 2048, 1]⟩
abbrev S16x2048 : Shape := ⟨2, ![16, 2048]⟩

class Facts : Prop where
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_
  h_S_ : 0 < S_.numel
  shapeCasts_S1x2048_S2048 : S1x2048.ShapeCasts S2048
  reducesTo_S2048_S_d0 : S2048.ReducesTo [0] S_
  bcast_S2048_S1x2048x1_1 : S2048.BroadcastsInDim S1x2048x1 (![1] : Fin 1 → Fin S1x2048x1.rank)
  bcast_S_S1x2048x1 : S_.BroadcastsInDim S1x2048x1 (![] : Fin 0 → Fin S1x2048x1.rank)
  shapeCasts_S1x16x2048x128_S16x2048x128 : S1x16x2048x128.ShapeCasts S16x2048x128
  bcast_S1x2048x1_S16x2048x128_0_1_2 : S1x2048x1.BroadcastsInDim S16x2048x128 (![0, 1, 2] : Fin 3 → Fin S16x2048x128.rank)
  bcast_S_S16x2048x128 : S_.BroadcastsInDim S16x2048x128 (![] : Fin 0 → Fin S16x2048x128.rank)
  transposes_S16x2048x128_S16x128x2048_0_2_1 : S16x2048x128.Transposes [0, 2, 1] S16x128x2048
  sliceFits_S16x128x2048_S16x128x21 : S16x128x2048.Slices (fun _ => 0) S16x128x21
  sliceFits_S16x2048x128_S16x2048x2 : S16x2048x128.Slices (fun _ => 0) S16x2048x2
  slices_S16x128x21_S16x128x20_0_0_0 : S16x128x21.Slices ![0, 0, 0] S16x128x20
  slices_S16x128x21_S16x128x20_0_0_1 : S16x128x21.Slices ![0, 0, 1] S16x128x20
  reducesTo_S16x128x20_S_d0_1_2 : S16x128x20.ReducesTo [0, 1, 2] S_
  slices_S16x2048x2_S16x2048x1_0_0_0 : S16x2048x2.Slices ![0, 0, 0] S16x2048x1
  shapeCasts_S16x2048x1_S16x2048 : S16x2048x1.ShapeCasts S16x2048
  slices_S16x2048x2_S16x2048x1_0_0_1 : S16x2048x2.Slices ![0, 0, 1] S16x2048x1
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16x2048_0_1 : S1x2048.BroadcastsInDim S16x2048 (![0, 1] : Fin 2 → Fin S16x2048.rank)
  reducesTo_S16x2048_S_d0_1 : S16x2048.ReducesTo [0, 1] S_

variable [Facts]

def fn_where {F : FTy → Type} [FloatOps F] (arg0 : IVec S1x2048x1 1) (arg1 : FVec F S_ .f32) (arg2 : FVec F S16x2048x128 .f32) : FVec F S16x2048x128 .f32 :=
  let v0 : FVec F S_ .f32 := id arg1
  let v1 : IVec S16x2048x128 1 := broadcastInDim S16x2048x128 ![0, 1, 2] bcast_S1x2048x1_S16x2048x128_0_1_2 arg0
  let v2 : FVec F S16x2048x128 .f32 := broadcastInDim S16x2048x128 ![] bcast_S_S16x2048x128 v0
  let v3 : FVec F S16x2048x128 .f32 := select v1 v2 arg2
  v3

def fn_part2 {F : FTy → Type} [FloatOps F] (main_v8 : IVec S_ 1) (main_v12 : IVec S_ 1) (main_v25 : IVec S_ 1) (main_v30 : IVec S16x2048 1) (main_v34 : IVec S16x2048 1) : IVec S_ 1 :=
  let main_v35 : IVec S16x2048 1 := ori main_v30 main_v34
  let main_c_9 : IVec S_ 1 := constantI S_ 1 1#1
  let main_v36 : IVec S_ 1 := (fun x v => Host.reduce IntOp.andi x v reducesTo_S16x2048_S_d0_1 h_S_) main_v35 main_c_9
  let main_v37 : IVec S_ 1 := andi main_v8 main_v12
  let main_v38 : IVec S_ 1 := andi main_v37 main_v25
  let main_v39 : IVec S_ 1 := andi main_v38 main_v36
  main_v39

def fn_part1 {F : FTy → Type} [FloatOps F] (main_arg2 : FVec F S1x16x2048x128 .f32) (main_v8 : IVec S_ 1) (main_v9 : IVec S2048 32) (main_v12 : IVec S_ 1) (main_v15 : IVec S1x2048x1 1) (main_v16 : FVec F S16x2048x128 .f32) (main_cst_4 : FVec F S_ .f32) : IVec S_ 1 :=
  let main_v17 : FVec F S16x2048x128 .f32 := fn_where (F := F) main_v15 main_cst_4 main_v16
  let main_v18 : FVec F S16x2048x128 .f32 := shapeCast S16x2048x128 main_arg2 shapeCasts_S1x16x2048x128_S16x2048x128
  let main_v19 : FVec F S16x2048x128 .f32 := Host.absf main_v17
  let main_v20 : FVec F S16x128x2048 .f32 := (transpose S16x128x2048 [0, 2, 1] · transposes_S16x2048x128_S16x128x2048_0_2_1) main_v19
  let main_values : FVec F S16x128x21 .f32 := (fun x => (Host.topK S16x128x21 2 (FloatOps.cmpfTotal .gt) x sliceFits_S16x128x2048_S16x128x21).1) main_v20
  let main_indices : IVec S16x128x21 32 := (fun x => (Host.topK S16x128x21 2 (FloatOps.cmpfTotal .gt) x sliceFits_S16x128x2048_S16x128x21).2) main_v20
  let main_v21 : FVec F S16x2048x128 .f32 := Host.absf main_v18
  let main_values_5 : FVec F S16x2048x2 .f32 := (fun x => (Host.topK S16x2048x2 2 (FloatOps.cmpfTotal .gt) x sliceFits_S16x2048x128_S16x2048x2).1) main_v21
  let main_indices_6 : IVec S16x2048x2 32 := (fun x => (Host.topK S16x2048x2 2 (FloatOps.cmpfTotal .gt) x sliceFits_S16x2048x128_S16x2048x2).2) main_v21
  let main_v22 : FVec F S16x128x20 .f32 := (extractStridedSlice S16x128x20 ![0, 0, 0] · slices_S16x128x21_S16x128x20_0_0_0) main_values
  let main_v23 : FVec F S16x128x20 .f32 := (extractStridedSlice S16x128x20 ![0, 0, 1] · slices_S16x128x21_S16x128x20_0_0_1) main_values
  let main_v24 : IVec S16x128x20 1 := cmpf .ogt main_v22 main_v23
  let main_c_7 : IVec S_ 1 := constantI S_ 1 1#1
  let main_v25 : IVec S_ 1 := (fun x v => Host.reduce IntOp.andi x v reducesTo_S16x128x20_S_d0_1_2 h_S_) main_v24 main_c_7
  let main_v26 : FVec F S16x2048x1 .f32 := (extractStridedSlice S16x2048x1 ![0, 0, 0] · slices_S16x2048x2_S16x2048x1_0_0_0) main_values_5
  let main_v27 : FVec F S16x2048 .f32 := shapeCast S16x2048 main_v26 shapeCasts_S16x2048x1_S16x2048
  let main_v28 : FVec F S16x2048x1 .f32 := (extractStridedSlice S16x2048x1 ![0, 0, 1] · slices_S16x2048x2_S16x2048x1_0_0_1) main_values_5
  let main_v29 : FVec F S16x2048 .f32 := shapeCast S16x2048 main_v28 shapeCasts_S16x2048x1_S16x2048
  let main_v30 : IVec S16x2048 1 := cmpf .ogt main_v27 main_v29
  let main_v31 : IVec S1x2048 32 := broadcastInDim S1x2048 ![1] bcast_S2048_S1x2048_1 main_v9
  let main_c_8 : IVec S_ 32 := constantI S_ 32 4#32
  let main_v32 : IVec S1x2048 32 := broadcastInDim S1x2048 ![] bcast_S_S1x2048 main_c_8
  let main_v33 : IVec S1x2048 1 := cmpi .slt main_v31 main_v32
  let main_v34 : IVec S16x2048 1 := broadcastInDim S16x2048 ![0, 1] bcast_S1x2048_S16x2048_0_1 main_v33
  fn_part2 (F := F) main_v8 main_v12 main_v25 main_v30 main_v34

def fn {F : FTy → Type} [FloatOps F] (main_arg0 : FVec F S1x16x2048x128 .f32) (main_arg1 : FVec F S1x16x2048x128 .f32) (main_arg2 : FVec F S1x16x2048x128 .f32) (main_arg3 : IVec S1x2048 32) : IVec S_ 1 :=
  let main_v0 : FVec F S1x16x2048x128 .f32 := Host.absf main_arg0
  let main_cst : FVec F S_ .f32 := constant S_ .f32 0x7F800000#32
  let main_v1 : FVec F S1x16x2048x128 .f32 := broadcastInDim S1x16x2048x128 ![] bcast_S_S1x16x2048x128 main_cst
  let main_v2 : IVec S1x16x2048x128 1 := cmpf .olt main_v0 main_v1
  let main_c : IVec S_ 1 := constantI S_ 1 1#1
  let main_v3 : IVec S_ 1 := (fun x v => Host.reduce IntOp.andi x v reducesTo_S1x16x2048x128_S_d0_1_2_3 h_S_) main_v2 main_c
  let main_v4 : FVec F S1x16x2048x128 .f32 := Host.absf main_arg1
  let main_cst_0 : FVec F S_ .f32 := constant S_ .f32 0x7F800000#32
  let main_v5 : FVec F S1x16x2048x128 .f32 := broadcastInDim S1x16x2048x128 ![] bcast_S_S1x16x2048x128 main_cst_0
  let main_v6 : IVec S1x16x2048x128 1 := cmpf .olt main_v4 main_v5
  let main_c_1 : IVec S_ 1 := constantI S_ 1 1#1
  let main_v7 : IVec S_ 1 := (fun x v => Host.reduce IntOp.andi x v reducesTo_S1x16x2048x128_S_d0_1_2_3 h_S_) main_v6 main_c_1
  let main_v8 : IVec S_ 1 := andi main_v3 main_v7
  let main_v9 : IVec S2048 32 := iotaInDim S2048 32 0
  let main_v10 : IVec S2048 32 := shapeCast S2048 main_arg3 shapeCasts_S1x2048_S2048
  let main_v11 : IVec S2048 1 := cmpi .eq main_v10 main_v9
  let main_c_2 : IVec S_ 1 := constantI S_ 1 1#1
  let main_v12 : IVec S_ 1 := (fun x v => Host.reduce IntOp.andi x v reducesTo_S2048_S_d0 h_S_) main_v11 main_c_2
  let main_v13 : IVec S1x2048x1 32 := broadcastInDim S1x2048x1 ![1] bcast_S2048_S1x2048x1_1 main_v9
  let main_c_3 : IVec S_ 32 := constantI S_ 32 4#32
  let main_v14 : IVec S1x2048x1 32 := broadcastInDim S1x2048x1 ![] bcast_S_S1x2048x1 main_c_3
  let main_v15 : IVec S1x2048x1 1 := cmpi .slt main_v13 main_v14
  let main_v16 : FVec F S16x2048x128 .f32 := shapeCast S16x2048x128 main_arg1 shapeCasts_S1x16x2048x128_S16x2048x128
  let main_cst_4 : FVec F S_ .f32 := constant S_ .f32 0x00000000#32
  fn_part1 (F := F) main_arg2 main_v8 main_v9 main_v12 main_v15 main_v16 main_cst_4
-- ==== Kernel.lean ====
abbrev S1x16x2048x128 : Shape := ⟨4, ![1, 16, 2048, 128]⟩
abbrev S1x2048 : Shape := ⟨2, ![1, 2048]⟩
abbrev S16x2048x128 : Shape := ⟨3, ![16, 2048, 128]⟩
abbrev S1x2048x128 : Shape := ⟨3, ![1, 2048, 128]⟩
abbrev S1x512x128 : Shape := ⟨3, ![1, 512, 128]⟩
abbrev S2048x128 : Shape := ⟨2, ![2048, 128]⟩
abbrev S2048x64 : Shape := ⟨2, ![2048, 64]⟩
abbrev S2048x1 : Shape := ⟨2, ![2048, 1]⟩
abbrev S128 : Shape := ⟨1, ![128]⟩
abbrev S1x128 : Shape := ⟨2, ![1, 128]⟩
abbrev S2048 : Shape := ⟨1, ![2048]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S1x16x2048x128, .f32⟩
  | .hbm, ⟨1, _⟩ => ⟨S1x16x2048x128, .f32⟩
  | .hbm, ⟨2, _⟩ => ⟨S1x16x2048x128, .f32⟩
  | .hbm, ⟨3, _⟩ => ⟨S1x2048, .i32⟩
  | .hbm, ⟨4, _⟩ => ⟨S16x2048x128, .f32⟩
  | .hbm, ⟨5, _⟩ => ⟨S16x2048x128, .f32⟩
  | .hbm, ⟨6, _⟩ => ⟨S16x2048x128, .f32⟩
  | .hbm, ⟨7, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x64, .f32⟩
  | .local _ .vmem, ⟨12, _⟩ => ⟨S2048x64, .f32⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg1 : BitVec 32 := BitVec.ofNat 32 (i 1).val
  let c512_i32 : BitVec 32 := 512#32
  let v8 : BitVec 32 := Scalar.muli arg1 c512_i32
  let v9 : Index := Scalar.indexCast v8
  let c0 : Index := 0#32
  ![v9.toNat, 0]
@[reducible] def k0_t1_loop (i : grid0.Coords) : Scf.Loop 32 :=
  let c0_i32_13 : BitVec 32 := 0#32
  let arg1 : BitVec 32 := BitVec.ofNat 32 (i 1).val
  let v32 : BitVec 32 := Scalar.subi arg1 c0_i32_13
  let c1_i32 : BitVec 32 := 1#32
  let v34 : BitVec 32 := Scalar.divsi v32 c1_i32
  let v35 : BitVec 32 := Scalar.muli v34 c1_i32
  let v36 : BitVec 32 := Scalar.addi c0_i32_13 v35
  let c1_i32_14 : BitVec 32 := 1#32
  ⟨c0_i32_13, v36, c1_i32_14⟩
def k0_off2 (i : grid0.Coords) (k0_t1 : Fin (k0_t1_loop i).trips) : Fin 2 → Nat :=
  let c0_i32_13 : BitVec 32 := 0#32
  let c1_i32_14 : BitVec 32 := 1#32
  let arg11 : BitVec 32 := Scf.iv c0_i32_13 c1_i32_14 k0_t1
  let c512_i32_20 : BitVec 32 := 512#32
  let v46 : BitVec 32 := Scalar.muli arg11 c512_i32_20
  let v47 : Index := Scalar.indexCast v46
  let c0_21 : Index := 0#32
  ![v47.toNat, 0]
@[reducible] def k0_t2_loop (i : grid0.Coords) : Scf.Loop 32 :=
  let c0_i32_13 : BitVec 32 := 0#32
  let arg1 : BitVec 32 := BitVec.ofNat 32 (i 1).val
  let v32 : BitVec 32 := Scalar.subi arg1 c0_i32_13
  let c1_i32 : BitVec 32 := 1#32
  let v34 : BitVec 32 := Scalar.divsi v32 c1_i32
  let v35 : BitVec 32 := Scalar.muli v34 c1_i32
  let v36 : BitVec 32 := Scalar.addi c0_i32_13 v35
  let v33 : BitVec 32 := Scalar.addi c0_i32_13 v32
  let c1_i32_15 : BitVec 32 := 1#32
  ⟨v36, v33, c1_i32_15⟩
def k0_off3 (i : grid0.Coords) (k0_t2 : Fin (k0_t2_loop i).trips) : Fin 2 → Nat :=
  let c0_i32_13 : BitVec 32 := 0#32
  let arg1 : BitVec 32 := BitVec.ofNat 32 (i 1).val
  let v32 : BitVec 32 := Scalar.subi arg1 c0_i32_13
  let c1_i32 : BitVec 32 := 1#32
  let v34 : BitVec 32 := Scalar.divsi v32 c1_i32
  let v35 : BitVec 32 := Scalar.muli v34 c1_i32
  let v36 : BitVec 32 := Scalar.addi c0_i32_13 v35
  let c1_i32_15 : BitVec 32 := 1#32
  let arg11 : BitVec 32 := Scf.iv v36 c1_i32_15 k0_t2
  let c512_i32_20 : BitVec 32 := 512#32
  let v46 : BitVec 32 := Scalar.muli arg11 c512_i32_20
  let v47 : Index := Scalar.indexCast v46
  let c0_21 : Index := 0#32
  ![v47.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "freq_step" => some ((-((Real.log 10000) * (1 / 64)) : ℝ) : EReal)
  | "logit_scale" => some (((Real.sqrt 128)⁻¹ * (Real.log 2)⁻¹ : ℝ) : EReal)
  | "mask" => some ⊥
  | _ => none
-- ==== ReferenceIdeal.lean ====
abbrev S1x16x2048x128 : Shape := ⟨4, ![1, 16, 2048, 128]⟩
abbrev S1x2048 : Shape := ⟨2, ![1, 2048]⟩
abbrev S16x2048x128 : Shape := ⟨3, ![16, 2048, 128]⟩
abbrev S2048 : Shape := ⟨1, ![2048]⟩
abbrev S1x2048x1 : Shape := ⟨3, ![1, 2048, 1]⟩
abbrev S_ : Shape := ⟨0, ![]⟩
abbrev S16x128x2048 : Shape := ⟨3, ![16, 128, 2048]⟩
abbrev S16x128x20 : Shape := ⟨3, ![16, 128, 20]⟩
abbrev S16x128x20x1 : Shape := ⟨4, ![16, 128, 20, 1]⟩
abbrev S1x1x1x2048 : Shape := ⟨4, ![1, 1, 1, 2048]⟩
abbrev S16x128x20x2048 : Shape := ⟨4, ![16, 128, 20, 2048]⟩
abbrev S16x128 : Shape := ⟨2, ![16, 128]⟩
abbrev S16x1x128 : Shape := ⟨3, ![16, 1, 128]⟩
abbrev S16x2048x1 : Shape := ⟨3, ![16, 2048, 1]⟩
abbrev S128 : Shape := ⟨1, ![128]⟩
abbrev S16x2048x1x1 : Shape := ⟨4, ![16, 2048, 1, 1]⟩
abbrev S1x1x1x128 : Shape := ⟨4, ![1, 1, 1, 128]⟩
abbrev S16x2048x1x128 : Shape := ⟨4, ![16, 2048, 1, 128]⟩
abbrev S16x2048 : Shape := ⟨2, ![16, 2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x128 : Shape := ⟨3, ![1, 2048, 128]⟩
abbrev S16x2048x64 : Shape := ⟨3, ![16, 2048, 64]⟩
abbrev S16x2048x2048 : Shape := ⟨3, ![16, 2048, 2048]⟩
abbrev S2048x2048 : Shape := ⟨2, ![2048, 2048]⟩
abbrev S1x2048x2048 : Shape := ⟨3, ![1, 2048, 2048]⟩

abbrev nBuf : Space → Nat
  | .hbm => 212
  | .vmem => 0
  | .smem => 0
  | _ => 0

abbrev hbmTy0_0 (i : Nat) : BufTy := match i % 128 with
  | 0 => ⟨S1x16x2048x128, .f32⟩
  | 1 => ⟨S1x16x2048x128, .f32⟩
  | 2 => ⟨S1x16x2048x128, .f32⟩
  | 3 => ⟨S1x2048, .i32⟩
  | 4 => ⟨S16x2048x128, .f32⟩
  | 5 => ⟨S16x2048x128, .f32⟩
  | 6 => ⟨S16x2048x128, .f32⟩
  | 7 => ⟨S2048, .i32⟩
  | 8 => ⟨S2048, .i32⟩
  | 9 => ⟨S1x2048x1, .i32⟩
  | 10 => ⟨S_, .i32⟩
  | 11 => ⟨S1x2048x1, .i32⟩
  | 12 => ⟨S1x2048x1, .i1⟩
  | 13 => ⟨S_, .f32⟩
  | 14 => ⟨S_, .f32⟩
  | 15 => ⟨S16x2048x128, .i1⟩
  | 16 => ⟨S16x2048x128, .f32⟩
  | 17 => ⟨S16x2048x128, .f32⟩
  | 18 => ⟨S16x2048x128, .f32⟩
  | 19 => ⟨S16x128x2048, .f32⟩
  | 20 => ⟨S16x128x20, .f32⟩
  | 21 => ⟨S16x128x20, .i32⟩
  | 22 => ⟨S2048, .i32⟩
  | 23 => ⟨S16x128x20x1, .i32⟩
  | 24 => ⟨S1x1x1x2048, .i32⟩
  | 25 => ⟨S16x128x20x2048, .i32⟩
  | 26 => ⟨S16x128x20x2048, .i32⟩
  | 27 => ⟨S16x128x20x2048, .i1⟩
  | 28 => ⟨S_, .i1⟩
  | 29 => ⟨S16x128x2048, .i1⟩
  | 30 => ⟨S16x2048x128, .i1⟩
  | 31 => ⟨S_, .f32⟩
  | 32 => ⟨S_, .f32⟩
  | 33 => ⟨S16x2048x128, .f32⟩
  | 34 => ⟨S16x2048x128, .f32⟩
  | 35 => ⟨S16x2048x128, .f32⟩
  | 36 => ⟨S_, .f32⟩
  | 37 => ⟨S16x128, .f32⟩
  | 38 => ⟨S16x1x128, .f32⟩
  | 39 => ⟨S_, .f32⟩
  | 40 => ⟨S16x1x128, .f32⟩
  | 41 => ⟨S16x1x128, .f32⟩
  | 42 => ⟨S_, .f32⟩
  | 43 => ⟨S16x1x128, .f32⟩
  | 44 => ⟨S16x1x128, .f32⟩
  | 45 => ⟨S16x2048x128, .f32⟩
  | 46 => ⟨S16x2048x128, .f32⟩
  | 47 => ⟨S16x2048x128, .f32⟩
  | 48 => ⟨S_, .i32⟩
  | 49 => ⟨S_, .i32⟩
  | 50 => ⟨S_, .f32⟩
  | 51 => ⟨S16x2048x128, .f32⟩
  | 52 => ⟨S16x2048x128, .f32⟩
  | 53 => ⟨S_, .f32⟩
  | 54 => ⟨S16x2048x128, .f32⟩
  | 55 => ⟨S16x2048x128, .f32⟩
  | 56 => ⟨S16x2048x128, .f32⟩
  | 57 => ⟨S16x2048x128, .f32⟩
  | 58 => ⟨S16x2048x128, .f32⟩
  | 59 => ⟨S16x2048x128, .i1⟩
  | 60 => ⟨S16x2048x128, .f32⟩
  | 61 => ⟨S2048, .i32⟩
  | 62 => ⟨S1x2048x1, .i32⟩
  | 63 => ⟨S_, .i32⟩
  | 64 => ⟨S1x2048x1, .i32⟩
  | 65 => ⟨S1x2048x1, .i1⟩
  | 66 => ⟨S_, .f32⟩
  | 67 => ⟨S_, .f32⟩
  | 68 => ⟨S16x2048x128, .i1⟩
  | 69 => ⟨S16x2048x128, .f32⟩
  | 70 => ⟨S16x2048x128, .f32⟩
  | 71 => ⟨S16x2048x128, .f32⟩
  | 72 => ⟨S16x2048x1, .f32⟩
  | 73 => ⟨S16x2048x1, .i32⟩
  | 74 => ⟨S128, .i32⟩
  | 75 => ⟨S16x2048x1x1, .i32⟩
  | 76 => ⟨S1x1x1x128, .i32⟩
  | 77 => ⟨S16x2048x1x128, .i32⟩
  | 78 => ⟨S16x2048x1x128, .i32⟩
  | 79 => ⟨S16x2048x1x128, .i1⟩
  | 80 => ⟨S_, .i1⟩
  | 81 => ⟨S16x2048x128, .i1⟩
  | 82 => ⟨S_, .f32⟩
  | 83 => ⟨S_, .f32⟩
  | 84 => ⟨S16x2048x128, .f32⟩
  | 85 => ⟨S16x2048x128, .f32⟩
  | 86 => ⟨S16x2048x128, .f32⟩
  | 87 => ⟨S_, .f32⟩
  | 88 => ⟨S16x2048, .f32⟩
  | 89 => ⟨S16x2048x1, .f32⟩
  | 90 => ⟨S_, .f32⟩
  | 91 => ⟨S16x2048x1, .f32⟩
  | 92 => ⟨S16x2048x1, .f32⟩
  | 93 => ⟨S_, .f32⟩
  | 94 => ⟨S16x2048x1, .f32⟩
  | 95 => ⟨S16x2048x1, .f32⟩
  | 96 => ⟨S16x2048x128, .f32⟩
  | 97 => ⟨S16x2048x128, .f32⟩
  | 98 => ⟨S16x2048x128, .f32⟩
  | 99 => ⟨S_, .i32⟩
  | 100 => ⟨S_, .i32⟩
  | 101 => ⟨S_, .f32⟩
  | 102 => ⟨S16x2048x128, .f32⟩
  | 103 => ⟨S16x2048x128, .f32⟩
  | 104 => ⟨S_, .f32⟩
  | 105 => ⟨S16x2048x128, .f32⟩
  | 106 => ⟨S16x2048x128, .f32⟩
  | 107 => ⟨S16x2048x128, .f32⟩
  | 108 => ⟨S16x2048x128, .f32⟩
  | 109 => ⟨S16x2048x128, .f32⟩
  | 110 => ⟨S16x2048x128, .i1⟩
  | 111 => ⟨S16x2048x128, .f32⟩
  | 112 => ⟨S64, .i32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S2048, .f32⟩
  | 124 => ⟨S2048x1, .f32⟩
  | 125 => ⟨S1x64, .f32⟩
  | 126 => ⟨S2048x64, .f32⟩
  | 127 => ⟨S2048x64, .f32⟩
  | _ => ⟨S1x16x2048x128, .f32⟩

abbrev hbmTy0_1 (i : Nat) : BufTy := match i % 128 with
  | 0 => ⟨S2048x64, .f32⟩
  | 1 => ⟨S2048x64, .f32⟩
  | 2 => ⟨S2048x64, .f32⟩
  | 3 => ⟨S2048x128, .f32⟩
  | 4 => ⟨S1x2048x128, .f32⟩
  | 5 => ⟨S2048x64, .f32⟩
  | 6 => ⟨S2048x64, .f32⟩
  | 7 => ⟨S2048x128, .f32⟩
  | 8 => ⟨S1x2048x128, .f32⟩
  | 9 => ⟨S16x2048x64, .f32⟩
  | 10 => ⟨S16x2048x64, .f32⟩
  | 11 => ⟨S16x2048x64, .f32⟩
  | 12 => ⟨S16x2048x128, .f32⟩
  | 13 => ⟨S16x2048x128, .f32⟩
  | 14 => ⟨S16x2048x128, .f32⟩
  | 15 => ⟨S16x2048x128, .f32⟩
  | 16 => ⟨S16x2048x128, .f32⟩
  | 17 => ⟨S16x2048x128, .f32⟩
  | 18 => ⟨S64, .i32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S2048, .f32⟩
  | 30 => ⟨S2048x1, .f32⟩
  | 31 => ⟨S1x64, .f32⟩
  | 32 => ⟨S2048x64, .f32⟩
  | 33 => ⟨S2048x64, .f32⟩
  | 34 => ⟨S2048x64, .f32⟩
  | 35 => ⟨S2048x64, .f32⟩
  | 36 => ⟨S2048x64, .f32⟩
  | 37 => ⟨S2048x128, .f32⟩
  | 38 => ⟨S1x2048x128, .f32⟩
  | 39 => ⟨S2048x64, .f32⟩
  | 40 => ⟨S2048x64, .f32⟩
  | 41 => ⟨S2048x128, .f32⟩
  | 42 => ⟨S1x2048x128, .f32⟩
  | 43 => ⟨S16x2048x64, .f32⟩
  | 44 => ⟨S16x2048x64, .f32⟩
  | 45 => ⟨S16x2048x64, .f32⟩
  | 46 => ⟨S16x2048x128, .f32⟩
  | 47 => ⟨S16x2048x128, .f32⟩
  | 48 => ⟨S16x2048x128, .f32⟩
  | 49 => ⟨S16x2048x128, .f32⟩
  | 50 => ⟨S16x2048x128, .f32⟩
  | 51 => ⟨S16x2048x128, .f32⟩
  | 52 => ⟨S16x2048x2048, .f32⟩
  | 53 => ⟨S_, .f32⟩
  | 54 => ⟨S_, .f32⟩
  | 55 => ⟨S16x2048x2048, .f32⟩
  | 56 => ⟨S16x2048x2048, .f32⟩
  | 57 => ⟨S2048, .i32⟩
  | 58 => ⟨S2048x1, .i32⟩
  | 59 => ⟨S1x2048, .i32⟩
  | 60 => ⟨S2048x2048, .i32⟩
  | 61 => ⟨S2048x2048, .i32⟩
  | 62 => ⟨S2048x2048, .i1⟩
  | 63 => ⟨S1x2048x2048, .i1⟩
  | 64 => ⟨S_, .f32⟩
  | 65 => ⟨S_, .f32⟩
  | 66 => ⟨S16x2048x2048, .i1⟩
  | 67 => ⟨S16x2048x2048, .f32⟩
  | 68 => ⟨S16x2048x2048, .f32⟩
  | 69 => ⟨S_, .f32⟩
  | 70 => ⟨S16x2048, .f32⟩
  | 71 => ⟨S_, .f32⟩
  | 72 => ⟨S16x2048, .f32⟩
  | 73 => ⟨S16x2048, .f32⟩
  | 74 => ⟨S16x2048x1, .f32⟩
  | 75 => ⟨S16x2048x2048, .f32⟩
  | 76 => ⟨S16x2048x2048, .f32⟩
  | 77 => ⟨S16x2048x2048, .f32⟩
  | 78 => ⟨S_, .f32⟩
  | 79 => ⟨S16x2048, .f32⟩
  | 80 => ⟨S16x2048x1, .f32⟩
  | 81 => ⟨S16x2048x2048, .f32⟩
  | 82 => ⟨S16x2048x2048, .f32⟩
  | 83 => ⟨S16x2048x128, .f32⟩
  | _ => ⟨S1x16x2048x128, .f32⟩

abbrev hbmTy (i : Nat) : BufTy := match i / 128 with
  | 0 => hbmTy0_0 i
  | 1 => hbmTy0_1 i
  | _ => ⟨S1x16x2048x128, .f32⟩

abbrev bufTy : (tb : Table) → Fin (tcTables nBuf tb) → BufTy
  | .hbm, ⟨i, _⟩ => hbmTy i
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_values : Ref sig .tc := ⟨.hbm, 20, rfl⟩
abbrev main_indices : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_c_6 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call5_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_call6_v0 : Ref sig .tc := ⟨.hbm, 67, rfl⟩
abbrev main_call6_v1 : Ref sig .tc := ⟨.hbm, 68, rfl⟩
abbrev main_call6_v2 : Ref sig .tc := ⟨.hbm, 69, rfl⟩
abbrev main_v39 : Ref sig .tc := ⟨.hbm, 70, rfl⟩
abbrev main_v40 : Ref sig .tc := ⟨.hbm, 71, rfl⟩
abbrev main_values_9 : Ref sig .tc := ⟨.hbm, 72, rfl⟩
abbrev main_indices_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_v47 : Ref sig .tc := ⟨.hbm, 81, rfl⟩
abbrev main_cst_12 : Ref sig .tc := ⟨.hbm, 82, rfl⟩
abbrev main_call7_v0 : Ref sig .tc := ⟨.hbm, 83, rfl⟩
abbrev main_call7_v1 : Ref sig .tc := ⟨.hbm, 84, rfl⟩
abbrev main_v48 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_v51 : Ref sig .tc := ⟨.hbm, 89, rfl⟩
abbrev main_cst_14 : Ref sig .tc := ⟨.hbm, 90, rfl⟩
abbrev main_v52 : Ref sig .tc := ⟨.hbm, 91, rfl⟩
abbrev main_v53 : Ref sig .tc := ⟨.hbm, 92, rfl⟩
abbrev main_cst_15 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_16 : Ref sig .tc := ⟨.hbm, 99, rfl⟩
abbrev main_c_17 : Ref sig .tc := ⟨.hbm, 100, rfl⟩
abbrev main_call9_v0 : Ref sig .tc := ⟨.hbm, 101, rfl⟩
abbrev main_call9_v1 : Ref sig .tc := ⟨.hbm, 102, rfl⟩
abbrev main_call9_v2 : Ref sig .tc := ⟨.hbm, 103, rfl⟩
abbrev main_call9_v3 : Ref sig .tc := ⟨.hbm, 104, rfl⟩
abbrev main_call9_v4 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_call11_v0 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_18 : Ref sig .tc := ⟨.hbm, 114, rfl⟩
abbrev main_v66 : Ref sig .tc := ⟨.hbm, 115, rfl⟩
abbrev main_v67 : Ref sig .tc := ⟨.hbm, 116, rfl⟩
abbrev main_cst_19 : Ref sig .tc := ⟨.hbm, 117, rfl⟩
abbrev main_v68 : Ref sig .tc := ⟨.hbm, 118, rfl⟩
abbrev main_v69 : Ref sig .tc := ⟨.hbm, 119, rfl⟩
abbrev main_cst_20 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_21 : Ref sig .tc := ⟨.hbm, 148, rfl⟩
abbrev main_v97 : Ref sig .tc := ⟨.hbm, 149, rfl⟩
abbrev main_v98 : Ref sig .tc := ⟨.hbm, 150, rfl⟩
abbrev main_cst_22 : Ref sig .tc := ⟨.hbm, 151, rfl⟩
abbrev main_v99 : Ref sig .tc := ⟨.hbm, 152, rfl⟩
abbrev main_v100 : Ref sig .tc := ⟨.hbm, 153, rfl⟩
abbrev main_cst_23 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_24 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_25 : Ref sig .tc := ⟨.hbm, 192, rfl⟩
abbrev main_call12_v0 : Ref sig .tc := ⟨.hbm, 193, rfl⟩
abbrev main_call12_v1 : Ref sig .tc := ⟨.hbm, 194, rfl⟩
abbrev main_call12_v2 : Ref sig .tc := ⟨.hbm, 195, rfl⟩
abbrev main_v137 : Ref sig .tc := ⟨.hbm, 196, rfl⟩
abbrev main_cst_26 : Ref sig .tc := ⟨.hbm, 197, rfl⟩
abbrev main_v138 : Ref sig .tc := ⟨.hbm, 198, rfl⟩
abbrev main_cst_27 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_28 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩

abbrev nD : Nat := 1
abbrev τ : Topo := Topo.v7x

variable {F : FTy → Type} [FloatOps F]
-- ==== Proof.KernelRun.lean ====
module
public import proofs.«01_k».proof.Proof.Gen.KernelIdeal.Value
public import Idealize.ShloMosaic.Lib.Pipeline.ValueKit
public import Idealize.ShloMosaic.Lib.Pipeline.ReadBack

/-! What one grid point of the kernel leaves behind: the prepared head in its scratch buffers, and the block of
    512 output rows as a function of that head. Everything is stated over the body's own arithmetic. -/

@[expose] public section
set_option maxRecDepth 16384
noncomputable section

namespace Cert.KernelRun

open Cert.KernelIdeal Cert.KernelIdeal.Gen
open Idealize.ShloMosaic Idealize.ShloMosaic.TcCoe Idealize.SL.Sem

variable {F : FTy → Type} [FloatOps F] [Named F]

/-- Rows `512 n` to `512 n + 511` of a head. -/
def rows (X : Vec F S2048x128 .bf16) (n : ℕ) : Vec F S512x128 .bf16 := fun j =>
  X (ix2 ⟨(512 * n + (j 0).val) % 2048, Nat.mod_lt _ (by decide)⟩ (j 1))

/-- The prepared queries. -/
def queries (q : Vec F S1x2048x128 .f32) (C S : Vec F S2048x64 .f32) : Vec F S2048x128 .bf16 := k0_pay18 (k0_pay8 q) C S

/-- The prepared keys: quantised and put back together, then rotated. -/
def keys (k : Vec F S1x2048x128 .f32) (C S : Vec F S2048x64 .f32) : Vec F S2048x128 .bf16 :=
  k0_pay20 C S
    (k0_pay17 (k0_pay9 k) k0_pay11 (k0_pay12 k) (k0_pay13 k) (k0_pay16 (k0_pay13 k) (k0_pay15 (k0_pay13 k) (k0_pay14 k))))
    (k0_pay19 (k0_pay9 k) k0_pay11 (k0_pay12 k) (k0_pay13 k) (k0_pay16 (k0_pay13 k) (k0_pay15 (k0_pay13 k) (k0_pay14 k))))

/-- The prepared values. -/
def values (v : Vec F S1x2048x128 .f32) : Vec F S2048x128 .bf16 := k0_pay25 (k0_pay21 (k0_pay10 v) k0_pay11)

/-- The running pair of row sums of query block `b`: the diagonal block first, then the key blocks `0, 1, …`. -/
def accs (Q K V : Vec F S2048x128 .bf16) (b : ℕ) : ℕ → FVec F S512x1 .f32 × FVec F S512x128 .f32
  | 0 => (k0_pay27 (rows Q b) (rows K b), k0_pay28 (rows Q b) (rows K b) (rows V b))
  | n + 1 => (k0_pay2 (rows Q b) (accs Q K V b n).1 (rows K n), k0_pay3 (rows Q b) (accs Q K V b n).2 (rows K n) (rows V n))

variable (m : (ℓ : Loc nD τ sig) → Buf (Elt F) ℓ)

theorem hz : (![0, 0] : Fin 2 → ℕ) = fun _ => 0 := funext fun a => by fin_cases a <;> rfl

theorem trips_first : ∀ t : Fin cfg0.N, (k0_t1_loop (grid0.coords t)).trips = t.val % 4 := by decide +kernel

theorem trips_second : ∀ t : Fin cfg0.N, (k0_t2_loop (grid0.coords t)).trips = 0 := by decide +kernel

theorem off_diag : ∀ t : Fin cfg0.N, k0_off1 (grid0.coords t) = ![512 * (t.val % 4), 0] := by decide +kernel

theorem off_trip : ∀ (t : Fin cfg0.N) (k : Fin (k0_t1_loop (grid0.coords t)).trips),
    k0_off2 (grid0.coords t) k = ![512 * k.val, 0] := by decide +kernel

theorem ld_rows (X : Vec F S2048x128 .bf16) (off : Fin 2 → ℕ) (n : ℕ) (h : off = ![512 * n, 0])
    (inb : ∀ a, off a + S512x128.size a ≤ S2048x128.size a) :
    View.ld X (Rect.unit (s := S2048x128) off S512x128.size inb) = rows X n := by
  subst h
  funext j
  have h0 := inb 0
  unfold rows
  refine congrArg X (funext fun a => Fin.ext ?_)
  have h0' : 512 * n + 512 ≤ 2048 := h0
  have h1 : (j 0).val < 512 := (j 0).isLt
  refine (ValueKit.rect_emb_unit_val _ _ inb j a).trans ?_
  fin_cases a
  · exact (Nat.mod_eq_of_lt (show 512 * n + (j 0).val < 2048 by omega)).symm
  · exact Nat.zero_add _

/-- One trip of the key loop, at the contents `K`, `V` of the key and value buffers. -/
theorem trip_eq (c : Dev nD) (t : Fin cfg0.N) (q : Vec F S512x128 .bf16) (X7 X8) (K V : Vec F S2048x128 .bf16)
    (h7 : View.read (Elt F) scM0_1.view X7 = K) (h8 : View.read (Elt F) scM0_2.view X8 = V)
    (k : Fin (k0_t1_loop (grid0.coords t)).trips) (acc : FVec F S512x1 .f32 × FVec F S512x128 .f32) :
    tripR_k0_t1 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _) q X7 X8 k acc
      = (k0_pay2 q acc.1 (rows K k.val), k0_pay3 q acc.2 (rows K k.val) (rows V k.val)) := by
  subst h7 h8
  rw [← ld_rows _ _ _ (off_trip t k) (k0_off2_inb _ k), ← ld_rows _ _ _ (off_trip t k) (k0_off2_inb _ k)]
  unfold tripR_k0_t1 trip_k0_t1
  rfl

/-- The key loop's state before trip `n` is the running pair of row sums. -/
theorem state_eq (c : Dev nD) (t : Fin cfg0.N) (X7 X8) (Q K V : Vec F S2048x128 .bf16)
    (h7 : View.read (Elt F) scM0_1.view X7 = K) (h8 : View.read (Elt F) scM0_2.view X8 = V) :
    ∀ n, n ≤ t.val % 4 → st_k0_t1 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _)
      (rows Q (t.val % 4)) X7 X8 (accs Q K V (t.val % 4) 0) n = accs Q K V (t.val % 4) n
  | 0, _ => st_k0_t1_zero ..
  | n + 1, h => by
    have hk : n < (k0_t1_loop (grid0.coords t)).trips := by rw [trips_first]; omega
    refine (st_k0_t1_succ _ _ _ _ _ _ _ _ _ _ _ _ _ _ _ _ _ _ _ _ _ _ _ _ _ _ ⟨n, hk⟩).trans ?_
    rw [state_eq c t X7 X8 Q K V h7 h8 n (by omega)]
    exact trip_eq c t _ X7 X8 K V h7 h8 ⟨n, hk⟩ _

/-- The block of output rows of query block `b`. -/
def blockOut (Q K V : Vec F S2048x128 .bf16) (b : ℕ) : Vec F S1x512x128 .f32 :=
  k0_pay7 (accs Q K V b b).1 (accs Q K V b b).2

/-- The block a grid point stores, from the prepared head in its buffers. -/
theorem block_eq (c : Dev nD) (t : Fin cfg0.N) (X7 X8) (Q K V : Vec F S2048x128 .bf16) (q k v : Vec F S512x128 .bf16)
    (h7 : View.read (Elt F) scM0_1.view X7 = K) (h8 : View.read (Elt F) scM0_2.view X8 = V)
    (hq : q = rows Q (t.val % 4)) (hk : k = rows K (t.val % 4)) (hv : v = rows V (t.val % 4)) (n n' : ℕ)
    (hn : n = (k0_t1_loop (grid0.coords t)).trips) (hn' : n' = (k0_t2_loop (grid0.coords t)).trips) :
    k0_pay7 (st_k0_t2 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _)
        q X7 X8 ((st_k0_t1 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _) q X7 X8 (k0_pay27 q k, k0_pay28 q k v) n).1,
        (st_k0_t1 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _) q X7 X8 (k0_pay27 q k, k0_pay28 q k v) n).2) n').1
      (st_k0_t2 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _)
        q X7 X8 ((st_k0_t1 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _) q X7 X8 (k0_pay27 q k, k0_pay28 q k v) n).1,
        (st_k0_t1 Variants.none c none (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      scM0_3 (Memref.isWhole_whole _) scM0_4 (Memref.isWhole_whole _) q X7 X8 (k0_pay27 q k, k0_pay28 q k v) n).2) n').2 = blockOut Q K V (t.val % 4) := by
  subst hq hk hv
  rw [hn', trips_second, st_k0_t2_zero, hn, trips_first]
  have h := state_eq c t X7 X8 Q K V h7 h8 (t.val % 4) le_rfl
  unfold blockOut
  rw [← h]
  rfl

/-- A buffer stored whole reads back as what was stored. -/
theorem read_store {n : Fin 2 → ℕ} (v : View sig .tc .vmem S2048x128 .bf16) (f) (h : n = ![0, 0])
    (inb : ∀ a, n a + S2048x128.size a ≤ S2048x128.size a) (w : Vec F S2048x128 .bf16) :
    View.read (Elt F) v (v.writes (Elt F) f [⟨Rect.unit (s := S2048x128) n S2048x128.size inb, w⟩]) = w := by
  obtain rfl : n = fun _ => 0 := h.trans hz
  rw [View.read_writes_eq_canon]
  · exact View.canon_cons_unit_lit inb w [] (fun _ => rfl)
  · exact fun y => ⟨_, List.mem_singleton_self _, (Rect.mem_set_unit (inb := inb)).mpr fun a => ⟨Nat.zero_le _, (Nat.zero_add _).symm ▸ (y a).isLt⟩⟩

/-- A whole block read back. -/
theorem ld_block (x : Vec F S1x2048x128 .f32) (M : Memref sig .tc .vmem S1x2048x128 .f32) (h : M.IsWhole)
    (inb : ∀ a, (![0, 0, 0] : Fin 3 → ℕ) a + S1x2048x128.size a ≤ S1x2048x128.size a) :
    View.ld (View.read (Elt F) M.view (h.unread x)) (Rect.unit (s := S1x2048x128) ![0, 0, 0] S1x2048x128.size inb) = x := by
  rw [h.read_unread]
  exact View.ld_unit_lit inb x (by decide)

/-- A whole table of angles read back from the point before. -/
theorem ld_table (M : Memref sig .tc .vmem S2048x64 .f32) (h : M.IsWhole) (x : Vec F S2048x64 .f32)
    (inb : ∀ a, (![0, 0] : Fin 2 → ℕ) a + S2048x64.size a ≤ S2048x64.size a) :
    View.ld (View.read (Elt F) M.view (h.unread x)) (Rect.unit (s := S2048x64) ![0, 0] S2048x64.size inb) = x := by
  rw [h.read_unread]
  exact View.ld_unit_lit inb x (by decide)

/-- A whole table of angles read back from a store at the same point. -/
theorem readCov_table (v : View sig .tc .vmem S2048x64 .f32) (x : Vec F S2048x64 .f32)
    (inb : ∀ a, (![0, 0] : Fin 2 → ℕ) a + S2048x64.size a ≤ S2048x64.size a) :
    v.readCov [⟨Rect.unit (s := S2048x64) ![0, 0] S2048x64.size inb, x⟩]
      (Rect.unit (s := S2048x64) ![0, 0] S2048x64.size inb).toLoadRect = x :=
  View.readCov_unit_lit v inb x (by decide)

/-! ## The prepared head -/

section Prepared

variable (c : Dev nD) (t : Fin cfg0.N)

theorem cos_A (h0 : t.val % 64 = 0) (h1 : t.val % 4 = 0) : (outsAt0 m c t.val t.isLt).2.2.2.2.1 = k0_pay23 := by
  rw [outsAt0_A m c t h0 h1]
  dsimp only
  frame_out

theorem sin_A (h0 : t.val % 64 = 0) (h1 : t.val % 4 = 0) : (outsAt0 m c t.val t.isLt).2.2.2.2.2 = k0_pay24 := by
  rw [outsAt0_A m c t h0 h1]
  dsimp only
  frame_out

theorem queries_A (h0 : t.val % 64 = 0) (h1 : t.val % 4 = 0) :
    (outsAt0 m c t.val t.isLt).2.1 = queries (iblk m c 0 t) k0_pay23 k0_pay24 := by
  rw [outsAt0_A m c t h0 h1]
  dsimp only
  frame_out
  rfl

theorem keys_A (h0 : t.val % 64 = 0) (h1 : t.val % 4 = 0) :
    (outsAt0 m c t.val t.isLt).2.2.1 = keys (iblk m c 1 t) k0_pay23 k0_pay24 := by
  rw [outsAt0_A m c t h0 h1]
  dsimp only
  frame_out
  rw [ld_block (iblk m c 1 t) (ms0_1 t) (hs0_1 t), readCov_table, readCov_table]
  sl_kernel_rfl

theorem values_A (h0 : t.val % 64 = 0) (h1 : t.val % 4 = 0) :
    (outsAt0 m c t.val t.isLt).2.2.2.1 = values (iblk m c 2 t) := by
  rw [outsAt0_A m c t h0 h1]
  dsimp only
  frame_out
  rfl

variable (hp : t.val - 1 < cfg0.N)

theorem queries_C (h0 : ¬t.val % 64 = 0) (h1 : t.val % 4 = 0) : (outsAt0 m c t.val t.isLt).2.1 =
    queries (iblk m c 0 t) (outsAt0 m c (t.val - 1) hp).2.2.2.2.1 (outsAt0 m c (t.val - 1) hp).2.2.2.2.2 := by
  rw [outsAt0_C m c t h0 h1]
  dsimp only
  frame_out
  rw [read_unread_whole, read_unread_whole]
  rfl

theorem keys_C (h0 : ¬t.val % 64 = 0) (h1 : t.val % 4 = 0) : (outsAt0 m c t.val t.isLt).2.2.1 =
    keys (iblk m c 1 t) (outsAt0 m c (t.val - 1) hp).2.2.2.2.1 (outsAt0 m c (t.val - 1) hp).2.2.2.2.2 := by
  rw [outsAt0_C m c t h0 h1]
  dsimp only
  frame_out
  rw [ld_block (iblk m c 1 t) (ms0_1 t) (hs0_1 t), ld_table scM0_3 (Memref.isWhole_whole _),
    ld_table scM0_4 (Memref.isWhole_whole _)]
  sl_kernel_rfl

theorem values_C (h0 : ¬t.val % 64 = 0) (h1 : t.val % 4 = 0) :
    (outsAt0 m c t.val t.isLt).2.2.2.1 = values (iblk m c 2 t) := by
  rw [outsAt0_C m c t h0 h1]
  dsimp only
  frame_out
  rfl

end Prepared

theorem out_B (c : Dev nD) (t : Fin cfg0.N) (h0 : ¬t.val % 64 = 0) (h1 : ¬t.val % 4 = 0) (hp : t.val - 1 < cfg0.N) :
    (outsAt0 m c t.val t.isLt).1 = blockOut (outsAt0 m c (t.val - 1) hp).2.1 (outsAt0 m c (t.val - 1) hp).2.2.1
      (outsAt0 m c (t.val - 1) hp).2.2.2.1 (t.val % 4) := by
  rw [outsAt0_B m c t h0 h1]
  dsimp only
  frame_out
  refine block_eq c t _ _ _ _ _ _ _ _ ?_ ?_ ?_ ?_ ?_ _ _ rfl rfl
  · exact read_unread_whole _ _ _
  · exact read_unread_whole _ _ _
  · exact (ld_rows _ _ _ (off_diag t) (k0_off1_inb _)).trans (congrArg (fun X => rows X _) (read_unread_whole _ _ _))
  · exact (ld_rows _ _ _ (off_diag t) (k0_off1_inb _)).trans (congrArg (fun X => rows X _) (read_unread_whole _ _ _))
  · exact (ld_rows _ _ _ (off_diag t) (k0_off1_inb _)).trans (congrArg (fun X => rows X _) (read_unread_whole _ _ _))

theorem out_A (c : Dev nD) (t : Fin cfg0.N) (h0 : t.val % 64 = 0) (h1 : t.val % 4 = 0) :
    (outsAt0 m c t.val t.isLt).1 =
      blockOut (queries (iblk m c 0 t) k0_pay23 k0_pay24) (keys (iblk m c 1 t) k0_pay23 k0_pay24)
        (values (iblk m c 2 t)) (t.val % 4) := by
  rw [outsAt0_A m c t h0 h1]
  dsimp only
  frame_out
  rw [ld_block (iblk m c 1 t) (ms0_1 t) (hs0_1 t), readCov_table, readCov_table]
  refine block_eq c t _ _ _ (keys (iblk m c 1 t) k0_pay23 k0_pay24) _ _ _ _ ?_ ?_ ?_ ?_ ?_ _ _ rfl rfl
  · exact (read_store _ _ rfl _ _).trans (by sl_kernel_rfl)
  · exact (read_store _ _ rfl _ _).trans rfl
  · exact (ld_rows _ _ _ (off_diag t) (k0_off1_inb _)).trans rfl
  · exact (ld_rows _ _ _ (off_diag t) (k0_off1_inb _)).trans (congrArg (fun X => rows X _) (by sl_kernel_rfl))
  · exact (ld_rows _ _ _ (off_diag t) (k0_off1_inb _)).trans rfl

theorem out_C (c : Dev nD) (t : Fin cfg0.N) (h0 : ¬t.val % 64 = 0) (h1 : t.val % 4 = 0) (hp : t.val - 1 < cfg0.N) :
    (outsAt0 m c t.val t.isLt).1 =
      blockOut (queries (iblk m c 0 t) (outsAt0 m c (t.val - 1) hp).2.2.2.2.1 (outsAt0 m c (t.val - 1) hp).2.2.2.2.2)
        (keys (iblk m c 1 t) (outsAt0 m c (t.val - 1) hp).2.2.2.2.1 (outsAt0 m c (t.val - 1) hp).2.2.2.2.2)
        (values (iblk m c 2 t)) (t.val % 4) := by
  rw [outsAt0_C m c t h0 h1]
  dsimp only
  frame_out
  rw [ld_block (iblk m c 1 t) (ms0_1 t) (hs0_1 t), ld_table scM0_3 (Memref.isWhole_whole _),
    ld_table scM0_4 (Memref.isWhole_whole _)]
  try simp only [read_unread_whole]
  refine block_eq c t _ _ _ (keys (iblk m c 1 t) (outsAt0 m c (t.val - 1) hp).2.2.2.2.1 (outsAt0 m c (t.val - 1) hp).2.2.2.2.2) _ _ _ _
    ?_ ?_ ?_ ?_ ?_ _ _ rfl rfl
  · exact (read_store _ _ rfl _ _).trans (by sl_kernel_rfl)
  · exact (read_store _ _ rfl _ _).trans rfl
  · exact (ld_rows _ _ _ (off_diag t) (k0_off1_inb _)).trans rfl
  · exact (ld_rows _ _ _ (off_diag t) (k0_off1_inb _)).trans (congrArg (fun X => rows X _) (by sl_kernel_rfl))
  · exact (ld_rows _ _ _ (off_diag t) (k0_off1_inb _)).trans rfl
end Cert.KernelRun
end
-- ==== Proof.KernelArray.lean ====
module
public import proofs.«01_k».proof.Proof.KernelRun
public import Idealize.ShloMosaic.Lib.Claim

/-! What the kernel's output array holds after the run: at row `512 b + a` of head `h`, row `a` of the block of
    query block `b`, computed from that head of the three arguments. -/

@[expose] public section
set_option maxRecDepth 16384
noncomputable section

namespace Cert.KernelArray

open Cert.KernelIdeal Cert.KernelIdeal.Gen Cert.KernelRun
open Idealize.ShloMosaic Idealize.ShloMosaic.TcCoe Idealize.SL.Sem

variable {F : FTy → Type} [FloatOps F] [Named F]
variable (m : (ℓ : Loc nD τ sig) → Buf (Elt F) ℓ)

/-- Head `h` of an argument. -/
def headOf (A : Vec F S1x16x2048x128 .f32) (h : Fin 16) : Vec F S1x2048x128 .f32 := fun j => A (ix4 0 h (j 1) (j 2))

/-- The head that grid point `t` works on. -/
def hd (t : Fin cfg0.N) : Fin 16 := ⟨t.val / 4, by have := t.isLt; have : cfg0.N = 64 := Gen.N_0; omega⟩

theorem idx0 : ∀ t : Fin cfg0.N, win0_0.index t = ![t.val / 4, 0, 0] := by decide +kernel
theorem idx1 : ∀ t : Fin cfg0.N, win0_1.index t = ![t.val / 4, 0, 0] := by decide +kernel
theorem idx2 : ∀ t : Fin cfg0.N, win0_2.index t = ![t.val / 4, 0, 0] := by decide +kernel
theorem idx3 : ∀ t : Fin cfg0.N, win0_3.index t = ![t.val / 4, t.val % 4, 0] := by decide +kernel

theorem block0 (c : Dev nD) (t : Fin cfg0.N) : iblk m c 0 t = headOf (m ((c : Thread nD τ).loc main_arg0)) (hd t) := by
  funext j
  unfold headOf hd
  blk_simp [iblk, idx0 t]
  entry_read
  pointwise
  blk_ext [idx0 t]

theorem block1 (c : Dev nD) (t : Fin cfg0.N) : iblk m c 1 t = headOf (m ((c : Thread nD τ).loc main_arg1)) (hd t) := by
  funext j
  unfold headOf hd
  blk_simp [iblk, idx1 t]
  entry_read
  pointwise
  blk_ext [idx1 t]

theorem block2 (c : Dev nD) (t : Fin cfg0.N) : iblk m c 2 t = headOf (m ((c : Thread nD τ).loc main_arg2)) (hd t) := by
  funext j
  unfold headOf hd
  blk_simp [iblk, idx2 t]
  entry_read
  pointwise
  blk_ext [idx2 t]

theorem carry (c : Dev nD) (t : Fin cfg0.N) (hp : t.val - 1 < cfg0.N) (h0 : ¬t.val % 64 = 0) (h1 : ¬t.val % 4 = 0) :
    (outsAt0 m c t.val t.isLt).2 = (outsAt0 m c (t.val - 1) hp).2 := by
  rw [outsAt0_B m c t h0 h1]
  rfl

/-- The rotation's cosines and sines stay in the scratch buffers from the first grid point on. -/
theorem tables (c : Dev nD) : ∀ n (hn : n < cfg0.N), (outsAt0 m c n hn).2.2.2.2.1 = k0_pay23 ∧ (outsAt0 m c n hn).2.2.2.2.2 = k0_pay24
  | 0, hn => ⟨cos_A m c ⟨0, hn⟩ rfl rfl, sin_A m c ⟨0, hn⟩ rfl rfl⟩
  | n + 1, hn => by
    have hN : cfg0.N = 64 := Gen.N_0
    have ih := tables c n (by omega)
    have h0 : ¬(n + 1) % 64 = 0 := by omega
    by_cases h1 : (n + 1) % 4 = 0
    · rw [outsAt0_C m c ⟨n + 1, hn⟩ h0 h1]
      exact ih
    · rw [carry m c ⟨n + 1, hn⟩ (by show n < _; omega) h0 h1]
      exact ih

/-- At every grid point the scratch buffers hold the prepared queries, keys and values of the point's head. -/
theorem prepared (c : Dev nD) : ∀ n (hn : n < cfg0.N),
    (outsAt0 m c n hn).2.1 = queries (headOf (m ((c : Thread nD τ).loc main_arg0)) (hd ⟨n, hn⟩)) k0_pay23 k0_pay24
    ∧ (outsAt0 m c n hn).2.2.1 = keys (headOf (m ((c : Thread nD τ).loc main_arg1)) (hd ⟨n, hn⟩)) k0_pay23 k0_pay24
    ∧ (outsAt0 m c n hn).2.2.2.1 = values (headOf (m ((c : Thread nD τ).loc main_arg2)) (hd ⟨n, hn⟩))
  | 0, hn => by
    rw [← block0, ← block1, ← block2]
    exact ⟨queries_A m c ⟨0, hn⟩ rfl rfl, keys_A m c ⟨0, hn⟩ rfl rfl, values_A m c ⟨0, hn⟩ rfl rfl⟩
  | n + 1, hn => by
    have hN : cfg0.N = 64 := Gen.N_0
    have hp : n < cfg0.N := by omega
    have ih := prepared c n hp
    have h0 : ¬(n + 1) % 64 = 0 := by omega
    by_cases h1 : (n + 1) % 4 = 0
    · obtain ⟨hC, hS⟩ := tables m c n hp
      have hq := queries_C m c ⟨n + 1, hn⟩ hp h0 h1
      have hk := keys_C m c ⟨n + 1, hn⟩ hp h0 h1
      have hv := values_C m c ⟨n + 1, hn⟩ h0 h1
      rw [← block0, ← block1, ← block2]
      refine ⟨hq.trans ?_, hk.trans ?_, hv⟩
      · exact congrArg₂ (queries _) hC hS
      · exact congrArg₂ (keys _) hC hS
    · rw [carry m c ⟨n + 1, hn⟩ hp h0 h1]
      have hh : hd ⟨n + 1, hn⟩ = hd ⟨n, hp⟩ := Fin.ext (show (n + 1) / 4 = n / 4 by omega)
      rw [hh]
      exact ih

/-- The output block of query block `b` of head `h`, from the three arguments. -/
def blockOf (q k v : Vec F S1x16x2048x128 .f32) (h : Fin 16) (b : ℕ) : Vec F S1x512x128 .f32 :=
  blockOut (queries (headOf q h) k0_pay23 k0_pay24) (keys (headOf k h) k0_pay23 k0_pay24) (values (headOf v h)) b

/-- What a grid point stores. -/
theorem stored (c : Dev nD) (t : Fin cfg0.N) : (outsAt0 m c t.val t.isLt).1
    = blockOf (m ((c : Thread nD τ).loc main_arg0)) (m ((c : Thread nD τ).loc main_arg1)) (m ((c : Thread nD τ).loc main_arg2))
        (hd t) (t.val % 4) := by
  have hN : cfg0.N = 64 := Gen.N_0
  have ht := t.isLt
  unfold blockOf
  by_cases h1 : t.val % 4 = 0
  · rw [← block0, ← block1, ← block2]
    by_cases h0 : t.val % 64 = 0
    · exact out_A m c t h0 h1
    · have hp : t.val - 1 < cfg0.N := by omega
      obtain ⟨hC, hS⟩ := tables m c (t.val - 1) hp
      rw [out_C m c t h0 h1 hp, hC, hS]
  · have h0 : ¬t.val % 64 = 0 := by omega
    have hp : t.val - 1 < cfg0.N := by omega
    obtain ⟨hq, hk, hv⟩ := prepared m c (t.val - 1) hp
    have hh : hd ⟨t.val - 1, hp⟩ = hd t := Fin.ext (show (t.val - 1) / 4 = t.val / 4 by omega)
    rw [out_B m c t h0 h1 hp, hq, hk, hv, hh]

/-- The output array as a function of the three arguments. -/
def result (q k v : Vec F S1x16x2048x128 .f32) : Vec F S16x2048x128 .f32 := fun i =>
  blockOf q k v (i 0) ((i 1).val / 512) (ix3 0 ⟨(i 1).val % 512, Nat.mod_lt _ (by decide)⟩ (i 2))

theorem result_apply (q k v : Vec F S1x16x2048x128 .f32) (i : S16x2048x128.Idx) (h : Fin 16) (b : ℕ) (y : S1x512x128.Idx)
    (e0 : (i 0).val = h.val) (e1 : (i 1).val = b * 512 + (y 1).val) (e2 : (i 2).val = (y 2).val) :
    result q k v i = blockOf q k v h b y := by
  have hy : (y 1).val < 512 := (y 1).isLt
  have hy0 : (y 0).val < 1 := (y 0).isLt
  have h0 : i 0 = h := Fin.ext e0
  have h1 : (i 1).val / 512 = b := by omega
  have h2 : (ix3 0 ⟨(i 1).val % 512, Nat.mod_lt _ (by decide)⟩ (i 2) : S1x512x128.Idx) = y := by
    funext a
    apply Fin.ext
    fin_cases a
    · show 0 = (y 0).val
      omega
    · show (i 1).val % 512 = (y 1).val
      omega
    · exact e2
  unfold result
  rw [h0, h1, h2]

/-- The output array after the run. -/
theorem array_eq (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, stored]
  refine (result_apply _ _ _ _ _ _ _ ?_ ?_ ?_).symm
  · have hy : (y 0).val < 1 := (y 0).isLt
    blk_simp [idx3 t]
    rfl
  · blk_simp [idx3 t]
  · blk_simp [idx3 t]
end Cert.KernelArray
end
-- ==== Proof.Consts.lean ====
/- The programs' float constants read as extended reals, each once. -/
module

public import Idealize.ShloMosaic.PureOps.Ideal
public import Idealize.ShloMosaic.PureOps.IdealRules
public import proofs.«01_k».proof.KernelIdeal

@[expose] public section

noncomputable section

open Idealize.ShloMosaic

namespace Cert.Consts

theorem ofBits_neg_one : Ideal.ofBits .f32 0xBF800000#32 = ((-1 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_seven : Ideal.ofBits .f32 0x40E00000#32 = ((7 : ℝ) : EReal) := by
  simp [Ideal.ofBits, Ideal.ieee, -EReal.coe_mul]; norm_num

theorem ofBits_neg_eight : Ideal.ofBits .f32 0xC1000000#32 = ((-8 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

/-- The quantiser's least magnitude, the float nearest `1e-8`, is a positive real. -/
theorem ofBits_tiny : ∃ e : ℝ, 0 < e ∧ Ideal.ofBits .f32 0x322BCC77#32 = (e : EReal) := by
  refine ⟨_, ?_, by simp [Ideal.ofBits, Ideal.ieee, -EReal.coe_mul]; rfl⟩
  positivity

theorem named_mask : Named.named (F := Ideal) Cert.KernelIdeal.κ "mask" (φ := .f32) 0xCE6E6B28#32 = ⊥ :=
  IdealRules.named_const.ideal_named_scalar _ _ _ _ rfl

theorem named_logit_scale : Named.named (F := Ideal) Cert.KernelIdeal.κ "logit_scale" (φ := .f32) 0x3E0293EE#32
    = (((Real.sqrt 128)⁻¹ * (Real.log 2)⁻¹ : ℝ) : EReal) :=
  IdealRules.named_const.ideal_named_scalar _ _ _ _ rfl

theorem named_freq_step : Named.named (F := Ideal) Cert.KernelIdeal.κ "freq_step" (φ := .f32) 0xBE135D8E#32
    = ((-((Real.log 10000) * (1 / 64)) : ℝ) : EReal) :=
  IdealRules.named_const.ideal_named_scalar _ _ _ _ rfl

end Cert.Consts

end
-- ==== Proof.Ranking.lean ====
/- The mathematics of "the n largest of a finite family", apart from any program: repeatedly taking the maximum of
   what lies strictly below the last maximum walks down a strictly decreasing ranking, the elements above the n-th
   value are the first n of the ranking, and the largest of the others is that n-th value. -/
module

public import Mathlib.Data.EReal.Basic
public import Mathlib.Data.Finset.Lattice.Fold
public import Mathlib.Data.Fintype.Basic

@[expose] public section

noncomputable section

namespace Cert.Ranking

variable {N : ℕ}

/-- The maximum of a family of extended reals (`⊥` for the empty family). -/
def top (a : Fin N → EReal) : EReal := Finset.univ.sup a

/-- The family with everything at or above `m` replaced by `-1`. -/
def below (a : Fin N → EReal) (m : EReal) : Fin N → EReal := fun r => if m ≤ a r then ((-1 : ℝ) : EReal) else a r

/-- The successive maxima: first the maximum, then the maximum of what lies strictly below the last one. -/
def peel (a : Fin N → EReal) : ℕ → EReal
  | 0 => top a
  | n + 1 => top (below a (peel a n))

theorem top_eq_of_le {a : Fin N → EReal} {r : Fin N} {x : EReal} (hr : a r = x) (h : ∀ i, a i ≤ x) : top a = x :=
  le_antisymm (Finset.sup_le fun i _ => h i) (hr ▸ Finset.le_sup (f := a) (Finset.mem_univ r))

/-- A ranking of `a`: a rearrangement `σ` of the positions along which `a` does not increase. -/
structure Ranks (a : Fin N → EReal) (σ : Fin N → Fin N) : Prop where
  surj : Function.Surjective σ
  inj : Function.Injective σ
  anti : ∀ i j, i ≤ j → a (σ j) ≤ a (σ i)

variable {a : Fin N → EReal} {σ : Fin N → Fin N}

/-- When the first `n + 1` values of the ranking strictly decrease, the `j`-th successive maximum is the `j`-th
    ranked value, for `j ≤ n`. -/
theorem peel_eq (hσ : Ranks a σ) (h0 : ∀ i, 0 ≤ a i) {n : ℕ} (hn : n < N)
    (hs : ∀ j (hj : j < n), a (σ ⟨j + 1, by omega⟩) < a (σ ⟨j, by omega⟩)) :
    ∀ j (hj : j ≤ n), peel a j = a (σ ⟨j, by omega⟩)
  | 0, _ => top_eq_of_le rfl fun i => by
      obtain ⟨i, rfl⟩ := hσ.surj i
      exact hσ.anti _ _ (Fin.mk_le_of_le_val (Nat.zero_le _))
  | j + 1, hj => by
      rw [peel, peel_eq hσ h0 hn hs j (by omega)]
      refine top_eq_of_le (r := σ ⟨j + 1, by omega⟩) ?_ fun i => ?_
      · exact if_neg (not_le.mpr (hs j (by omega)))
      · obtain ⟨i, rfl⟩ := hσ.surj i
        unfold below
        split
        · exact le_trans (by exact_mod_cast (by norm_num : (-1 : ℝ) ≤ 0)) (h0 _)
        · rename_i hlt
          refine hσ.anti _ _ (Fin.mk_le_of_le_val ?_)
          by_contra hc
          exact hlt (hσ.anti _ _ (Fin.le_def.mpr (by simp only; omega)))

/-- With a strict drop after each of the first `n` ranks, "among the first `n`" means "above the `n`-th value". -/
theorem first_iff (hσ : Ranks a σ) {n : ℕ} (hn : n < N)
    (hs : ∀ j (hj : j < n), a (σ ⟨j + 1, by omega⟩) < a (σ ⟨j, by omega⟩)) (r : Fin N) :
    (∃ j : Fin n, σ ⟨j, by omega⟩ = r) ↔ a (σ ⟨n, hn⟩) < a r := by
  constructor
  · rintro ⟨j, rfl⟩
    exact lt_of_le_of_lt (hσ.anti _ _ (Fin.mk_le_mk.mpr (by omega))) (hs j j.isLt)
  · intro h
    obtain ⟨i, rfl⟩ := hσ.surj r
    have hi : i.val < n := by
      by_contra hc
      exact absurd (hσ.anti ⟨n, hn⟩ i (Fin.mk_le_of_le_val (by omega))) (not_le.mpr h)
    exact ⟨⟨i, hi⟩, rfl⟩

/-- The largest value once the first `n` ranks are set to zero is the `n`-th ranked value. -/
theorem top_rest (hσ : Ranks a σ) (h0 : ∀ i, 0 ≤ a i) {n : ℕ} (hn : n < N)
    (hs : ∀ j (hj : j < n), a (σ ⟨j + 1, by omega⟩) < a (σ ⟨j, by omega⟩)) {b : Fin N → EReal}
    (hb : ∀ r, b r = if a (σ ⟨n, hn⟩) < a r then 0 else a r) : top b = a (σ ⟨n, hn⟩) := by
  refine top_eq_of_le (r := σ ⟨n, hn⟩) ?_ fun i => ?_
  · rw [hb, if_neg (lt_irrefl _)]
  · rw [hb]
    split
    · exact h0 _
    · exact not_lt.mp ‹_›

/-- With a strict drop after the first rank, only the first-ranked position reaches the maximum. -/
theorem eq_top_iff (hσ : Ranks a σ) (hn : 1 < N)
    (hs : a (σ ⟨1, hn⟩) < a (σ ⟨0, by omega⟩)) (r : Fin N) :
    a r = top a ↔ a (σ ⟨1, hn⟩) < a r := by
  have ht : top a = a (σ ⟨0, by omega⟩) := top_eq_of_le rfl fun i => by
    obtain ⟨i, rfl⟩ := hσ.surj i
    exact hσ.anti _ _ (Fin.mk_le_of_le_val (Nat.zero_le _))
  rw [ht]
  constructor
  · intro h; rw [h]; exact hs
  · intro h
    obtain ⟨j, rfl⟩ := (first_iff hσ hn (fun j hj => by
      obtain rfl : j = 0 := by omega
      exact hs) r).mpr h
    have : j = 0 := Fin.ext (by omega)
    subst this; rfl

end Cert.Ranking

end
-- ==== Proof.Model.lean ====
/- The mathematics of the kernel, on matrices of extended reals (rows are tokens, columns are channels): what the
   quantised cache holds of the keys and values, the rotation by position, and causal attention. No program occurs
   here. -/
module

public import Idealize.ShloMosaic.PureOps.Ideal
public import proofs.«01_k».proof.Proof.Ranking

@[expose] public section

noncomputable section

open Idealize.ShloMosaic

namespace Cert.Model

/-- A matrix of one head: 2048 tokens by 128 channels. -/
abbrev Mat := Fin 2048 → Fin 128 → EReal

/-- The matrix with the first four tokens, the sinks, set to zero. -/
def iso (x : Mat) : Mat := fun r d => if r.val < 4 then 0 else x r d

/-- The magnitudes past the sinks. -/
def mag (x : Mat) : Mat := fun r d => max (iso x r d) (-(iso x r d))

/-- The least magnitude the quantiser scales by (the float nearest `1e-8`). -/
def tiny : EReal := Ideal.ofBits .f32 0x322BCC77#32

/-- The quantiser's step for the largest magnitude `t`. -/
def step (t : EReal) : EReal := Ideal.div (max t tiny) ((7 : ℝ) : EReal)

/-- `x` quantised to the integers from -8 to 7 with the step for `t`, and scaled back. -/
def quant (t x : EReal) : EReal :=
  min ((7 : ℝ) : EReal) (max ((-8 : ℝ) : EReal) (Ideal.liftRound Ideal.roundHalfEven (Ideal.div x (step t)))) * step t

/-- The quantised cache: sinks exactly, the entries whose magnitude exceeds the threshold exactly, the others through
    the quantiser scaled by the threshold. -/
def cache (thr : Fin 2048 → Fin 128 → EReal) (x : Mat) : Mat := fun r d =>
  if r.val < 4 then x r d else if thr r d < mag x r d then iso x r d else quant (thr r d) (iso x r d)

/-- The threshold of the keys: the 21st of a channel's successive maxima. -/
def keyThr (k : Mat) : Fin 2048 → Fin 128 → EReal := fun _ d => Ranking.peel (fun r => mag k r d) 20

/-- The threshold of the values: the second of a token's successive maxima. -/
def valThr (v : Mat) : Fin 2048 → Fin 128 → EReal := fun r _ => Ranking.peel (fun d => mag v r d) 1

/-- The values' cache as the kernel writes it: kept is what equals the token's maximum. -/
def valCache (v : Mat) : Mat := fun r d =>
  if r.val < 4 then v r d
  else if mag v r d = Ranking.top (fun d => mag v r d) then iso v r d else quant (valThr v r d) (iso v r d)

/-- The angle by which token `r` turns the pair of channels `j` and `j + 64`. -/
def angle (r : Fin 2048) (j : Fin 64) : ℝ := (r.val : ℝ) * Real.exp ((j.val : ℝ) * -(Real.log 10000 * (1 / 64)))

def cosT (r : Fin 2048) (j : Fin 64) : EReal := ((Real.cos (angle r j) : ℝ) : EReal)
def sinT (r : Fin 2048) (j : Fin 64) : EReal := ((Real.sin (angle r j) : ℝ) : EReal)

/-- The rotation by position. -/
def rope (x : Mat) : Mat := fun r d =>
  if h : d.val < 64 then x r d * cosT r ⟨d.val, h⟩ - x r ⟨64 + d.val, by omega⟩ * sinT r ⟨d.val, h⟩
  else x r d * cosT r ⟨d.val - 64, by omega⟩ + x r ⟨d.val - 64, by omega⟩ * sinT r ⟨d.val - 64, by omega⟩

/-- The logit of query row `r` against key row `c`. -/
def logit (Q K : Fin 2048 → Fin 128 → ℝ) (r c : Fin 2048) : ℝ := (∑ d, Q r d * K c d) * (Real.sqrt 128)⁻¹

/-- Causal attention: the average of the value rows `c ≤ r`, weighted by the exponentials of the logits. The queries
    and keys are real; the values need not be. -/
def attend (Q K : Fin 2048 → Fin 128 → ℝ) (V : Mat) (r : Fin 2048) (d : Fin 128) : EReal :=
  (∑ c : Fin 2048, if c ≤ r then ((Real.exp (logit Q K r c) : ℝ) : EReal) * V c d else 0)
    * ((1 / ∑ c : Fin 2048, (if c ≤ r then Real.exp (logit Q K r c) else 0) : ℝ) : EReal)

/-- A finite sum of reals, taken in the extended reals. -/
theorem sum_coe {ι : Type} (s : Finset ι) (f : ι → ℝ) : (∑ i ∈ s, ((f i : ℝ) : EReal)) = ((∑ i ∈ s, f i : ℝ) : EReal) :=
  (map_sum (⟨⟨_, EReal.coe_zero⟩, EReal.coe_add⟩ : ℝ →+ EReal) f s).symm

/-- A factor that is a real and not negative goes into a sum, whatever the terms. -/
theorem sum_mul_coe {ι : Type} (s : Finset ι) (f : ι → EReal) {z : ℝ} (hz : 0 ≤ z) :
    (∑ i ∈ s, f i) * (z : EReal) = ∑ i ∈ s, f i * (z : EReal) := by
  classical
  induction s using Finset.induction_on with
  | empty => rw [Finset.sum_empty, Finset.sum_empty, zero_mul]
  | insert a s ha ih =>
    rw [Finset.sum_insert ha, Finset.sum_insert ha, ← ih,
      EReal.right_distrib_of_nonneg_of_ne_top (EReal.coe_nonneg.mpr hz) (EReal.coe_ne_top z)]

/-- An extended real that is a real number. -/
def IsReal (x : EReal) : Prop := ∃ r : ℝ, x = (r : EReal)

namespace IsReal

theorem coe (r : ℝ) : IsReal (r : EReal) := ⟨r, rfl⟩
theorem zero : IsReal 0 := ⟨0, rfl⟩
theorem add {x y : EReal} : IsReal x → IsReal y → IsReal (x + y) := by
  rintro ⟨a, rfl⟩ ⟨b, rfl⟩; exact ⟨a + b, (EReal.coe_add a b).symm⟩
theorem neg {x : EReal} : IsReal x → IsReal (-x) := by
  rintro ⟨a, rfl⟩; exact ⟨-a, (EReal.coe_neg a).symm⟩
theorem sub {x y : EReal} : IsReal x → IsReal y → IsReal (x - y) := by
  rintro ⟨a, rfl⟩ ⟨b, rfl⟩; exact ⟨a - b, (EReal.coe_sub a b).symm⟩
theorem mul {x y : EReal} : IsReal x → IsReal y → IsReal (x * y) := by
  rintro ⟨a, rfl⟩ ⟨b, rfl⟩; exact ⟨a * b, (EReal.coe_mul a b).symm⟩
theorem max {x y : EReal} (hx : IsReal x) (hy : IsReal y) : IsReal (max x y) := by
  rcases max_choice x y with h | h <;> rw [h] <;> assumption
theorem min {x y : EReal} (hx : IsReal x) (hy : IsReal y) : IsReal (min x y) := by
  rcases min_choice x y with h | h <;> rw [h] <;> assumption
theorem div {x : EReal} (hx : IsReal x) {b : ℝ} (hb : b ≠ 0) : IsReal (Ideal.div x (b : EReal)) := by
  rw [Ideal.div_coe hb]; exact hx.mul (coe _)
theorem round {x : EReal} : IsReal x → IsReal (Ideal.liftRound Ideal.roundHalfEven x) := by
  rintro ⟨a, rfl⟩; exact ⟨_, Ideal.liftRound_coe (r := a) _⟩

end IsReal

end Cert.Model

end
-- ==== Proof.Words.lean ====
/- Comparisons of small natural numbers written as 32-bit words, and a selection by the bit of a decision. -/
module

public import Idealize.ShloMosaic.Lib.Pointwise

@[expose] public section

noncomputable section

open Idealize.ShloMosaic

namespace Cert.Words

theorem toInt_small {a : ℕ} (ha : a < 2 ^ 31) : (BitVec.ofNat 32 a).toInt = (a : ℤ) := by
  have h : (BitVec.ofNat 32 a).toNat = a := by rw [BitVec.toNat_ofNat]; exact Nat.mod_eq_of_lt (by omega)
  rw [BitVec.toInt_eq_toNat_of_lt (by rw [h]; omega), h]

/-- Signed "less" on the words of small naturals. -/
theorem slt_small {a b : ℕ} (ha : a < 2 ^ 31) (hb : b < 2 ^ 31) :
    IntOp.cmpi .slt (BitVec.ofNat 32 a) (BitVec.ofNat 32 b) = BitVec.ofBool (decide (a < b)) := by
  simp only [IntOp.cmpi, BitVec.slt, toInt_small ha, toInt_small hb, Nat.cast_lt]

/-- Signed "greater" on the words of small naturals. -/
theorem sgt_small {a b : ℕ} (ha : a < 2 ^ 31) (hb : b < 2 ^ 31) :
    IntOp.cmpi .sgt (BitVec.ofNat 32 a) (BitVec.ofNat 32 b) = BitVec.ofBool (decide (b < a)) := by
  simp only [IntOp.cmpi, BitVec.slt, toInt_small ha, toInt_small hb, Nat.cast_lt]

/-- Signed "at least" on the words of small naturals. -/
theorem sge_small {a b : ℕ} (ha : a < 2 ^ 31) (hb : b < 2 ^ 31) :
    IntOp.cmpi .sge (BitVec.ofNat 32 a) (BitVec.ofNat 32 b) = BitVec.ofBool (decide (b ≤ a)) := by
  simp only [IntOp.cmpi, BitVec.sle, toInt_small ha, toInt_small hb, Nat.cast_le]

/-- Equality of the words of small naturals. -/
theorem eq_small {a b : ℕ} (ha : a < 2 ^ 31) (hb : b < 2 ^ 31) :
    IntOp.cmpi .eq (BitVec.ofNat 32 a) (BitVec.ofNat 32 b) = BitVec.ofBool (decide (a = b)) := by
  have h : (BitVec.ofNat 32 a = BitVec.ofNat 32 b) ↔ a = b := by
    constructor
    · intro h
      have := congrArg BitVec.toInt h
      rw [toInt_small ha, toInt_small hb] at this
      exact_mod_cast this
    · rintro rfl; rfl
  simp only [IntOp.cmpi, beq_eq_decide, h]

/-- The sinks' test on a token's index. -/
theorem sink_bit (r : Fin 2048) :
    IntOp.cmpi .slt (BitVec.ofNat 32 r.val) 4#32 = BitVec.ofBool (decide (r.val < 4)) :=
  slt_small (b := 4) (by omega) (by norm_num)

theorem bit_congr {p q : Prop} {hp : Decidable p} {hq : Decidable q} (h : p ↔ q) :
    BitVec.ofBool (@decide p hp) = BitVec.ofBool (@decide q hq) := by
  by_cases hp : p <;> simp [hp, h.symm] <;> simp [hp, ← h]

theorem bit_iff {p : Prop} {hp : Decidable p} : BitVec.ofBool (@decide p hp) = 1#1 ↔ p := by
  by_cases h : p
  · rw [decide_eq_true h]; exact iff_of_true rfl h
  · rw [decide_eq_false h]; exact iff_of_false (by decide) h

theorem le_congr {a b c d : EReal} (h : a = b) (h' : c = d) : a ≤ c ↔ b ≤ d := by rw [h, h']

/-- "At least" between two arrays of extended reals, at an index. -/
theorem oge_apply {s : Shape} {φ : FTy} (x y : FVec Ideal s φ) (i : s.Idx) :
    cmpf .oge x y i = BitVec.ofBool (decide ((y i : EReal) ≤ x i)) := rfl

theorem select_ofBool {α : Type} (p : Prop) [Decidable p] (x y : α) :
    Scalar.select (BitVec.ofBool (decide p)) x y = if p then x else y := by
  by_cases h : p <;> simp [Scalar.select, h]

end Cert.Words

end
-- ==== Proof.KernelPrep.lean ====
/- What the kernel prepares for one head, entry by entry: the tables of cosines and sines, the quantised keys and
   values, the rotated queries and keys. -/
module

public import proofs.«01_k».proof.Proof.Gen.KernelIdeal.Skeleton
public import proofs.«01_k».proof.Proof.Consts
public import proofs.«01_k».proof.Proof.Model
public import proofs.«01_k».proof.Proof.Words

@[expose] public section

set_option maxRecDepth 16384

noncomputable section

open Idealize.ShloMosaic

namespace Cert.KernelPrep

open Cert.KernelIdeal Cert.KernelIdeal.Gen Cert.Model Cert.Words
open Cert.KernelIdeal.Facts

variable [Cert.KernelIdeal.Facts]

/-- A 2048 x 128 array as a matrix. -/
def mat {φ : FTy} (x : FVec Ideal S2048x128 φ) : Mat := fun r d => x (ix2 r d)

/-! ## The tables -/

theorem cos_apply (r : Fin 2048) (j : Fin 64) : k0_pay23 (F := Ideal) (ix2 r j) = cosT r j := by
  pointwise [k0_pay23, k0_pay22]
  rw [Consts.named_freq_step]
  change Ideal.cos ((((BitVec.ofNat 32 r.val).toInt : ℝ) : EReal)
    * Ideal.exp ((((BitVec.ofNat 32 j.val).toInt : ℝ) : EReal) * _)) = _
  rw [toInt_small (by omega), toInt_small (by omega), ← EReal.coe_mul, Ideal.exp_coe, ← EReal.coe_mul, Ideal.cos_coe]
  simp only [cosT, angle, Int.cast_natCast]

theorem sin_apply (r : Fin 2048) (j : Fin 64) : k0_pay24 (F := Ideal) (ix2 r j) = sinT r j := by
  pointwise [k0_pay24, k0_pay22]
  rw [Consts.named_freq_step]
  change Ideal.sin ((((BitVec.ofNat 32 r.val).toInt : ℝ) : EReal)
    * Ideal.exp ((((BitVec.ofNat 32 j.val).toInt : ℝ) : EReal) * _)) = _
  rw [toInt_small (by omega), toInt_small (by omega), ← EReal.coe_mul, Ideal.exp_coe, ← EReal.coe_mul, Ideal.sin_coe]
  simp only [sinT, angle, Int.cast_natCast]

/-! ## The rotation -/

variable {C S : FVec Ideal S2048x64 .f32}

/-- The rotated queries, scaled by `1 / √128 · 1 / log 2`. -/
theorem query_apply (hC : ∀ r j, C (ix2 r j) = cosT r j) (hS : ∀ r j, S (ix2 r j) = sinT r j)
    (q : FVec Ideal S2048x128 .f32) (r : Fin 2048) (d : Fin 128) :
    k0_pay18 (F := Ideal) q C S (ix2 r d)
      = rope (mat q) r d * (((Real.sqrt 128)⁻¹ * (Real.log 2)⁻¹ : ℝ) : EReal) := by
  pointwise [k0_pay18]
  rw [Consts.named_logit_scale]
  refine congrArg (fun x : EReal => x * _) ?_
  unfold rope mat
  by_cases h : d.val < 64
  · simp only [h, ↓reduceDIte, hC, hS]
  · simp only [h, ↓reduceDIte, hC, hS]
    congr 4
    exact Fin.ext (by simp only; omega)

/-- The rotated keys. -/
theorem key_apply (hC : ∀ r j, C (ix2 r j) = cosT r j) (hS : ∀ r j, S (ix2 r j) = sinT r j)
    (a b c : FVec Ideal S2048x128 .f32) (s : IVec S2048x1 1) (M : IVec S2048x128 1) (r : Fin 2048) (d : Fin 128) :
    k0_pay20 (F := Ideal) C S (k0_pay17 a s b c M) (k0_pay19 a s b c M) (ix2 r d)
      = rope (mat (k0_pay17 a s b c M)) r d := by
  pointwise [k0_pay20, k0_pay19]
  generalize k0_pay17 a s b c M = k
  unfold rope mat
  by_cases h : d.val < 64
  · simp only [h, ↓reduceDIte, hC, hS]
  · simp only [h, ↓reduceDIte, hC, hS]
    congr 4
    exact Fin.ext (by simp only; omega)

/-! ## The keys' thresholds -/

/-- The maximum of every column, spread over the column. -/
def colMax (x : FVec Ideal S2048x128 .f32) : FVec Ideal S2048x128 .f32 :=
  broadcastTo S2048x128 (shapeCast S1x128
    (multiReduction .maximumf [0] S128 x 0xFF800000#32 reduces_S2048x128_S128 (.inl rfl) rfl) shapeCasts_S128_S1x128)
    broadcasts_S1x128_S2048x128

/-- The entries of `x` not marked by `M`, with `-1` at the marked ones. -/
def unmarked (x : FVec Ideal S2048x128 .f32) (M : IVec S2048x128 1) : FVec Ideal S2048x128 .f32 :=
  select M (broadcast S2048x128 (Scalar.ofBits .f32 0xBF800000#32)) x

/-- One round: mark what is at least the largest entry not yet marked. -/
def round (x : FVec Ideal S2048x128 .f32) (M : IVec S2048x128 1) : IVec S2048x128 1 :=
  cmpf .oge x (colMax (unmarked x M))

theorem colMax_apply (x : FVec Ideal S2048x128 .f32) (r : Fin 2048) (d : Fin 128) :
    colMax x (ix2 r d) = Ranking.top fun r => x (ix2 r d) := by
  pointwise [colMax]
  rw [Consts.ofBits_neg_inf]
  rfl

/-- `M` marks what is at or above the `n`-th successive maximum of its column of `x`. -/
def Marks (x : FVec Ideal S2048x128 .f32) (n : ℕ) (M : IVec S2048x128 1) : Prop :=
  ∀ (r : Fin 2048) (d : Fin 128),
    M (ix2 r d) = BitVec.ofBool (decide (Ranking.peel (fun r => x (ix2 r d)) n ≤ x (ix2 r d)))

theorem unmarked_apply {x : FVec Ideal S2048x128 .f32} {n : ℕ} {M : IVec S2048x128 1} (h : Marks x n M)
    (r : Fin 2048) (d : Fin 128) :
    unmarked x M (ix2 r d) = Ranking.below (fun r => x (ix2 r d)) (Ranking.peel (fun r => x (ix2 r d)) n) r := by
  pointwise [unmarked]
  rw [h r d, select_ofBool, Consts.ofBits_neg_one]
  rfl

theorem colMax_unmarked {x : FVec Ideal S2048x128 .f32} {n : ℕ} {M : IVec S2048x128 1} (h : Marks x n M)
    (r : Fin 2048) (d : Fin 128) :
    colMax (unmarked x M) (ix2 r d) = Ranking.peel (fun r => x (ix2 r d)) (n + 1) := by
  rw [colMax_apply]
  exact congrArg Ranking.top (funext fun r => unmarked_apply h r d)

theorem marks_zero (x : FVec Ideal S2048x128 .f32) : Marks x 0 (cmpf .oge x (colMax x)) := fun r d => by
  rw [oge_apply]
  exact bit_congr (le_congr (colMax_apply x r d) rfl)

theorem marks_round {x : FVec Ideal S2048x128 .f32} {n : ℕ} {M : IVec S2048x128 1} (h : Marks x n M) :
    Marks x (n + 1) (round x M) := fun r d => by
  rw [round, oge_apply]
  exact bit_congr (le_congr (colMax_unmarked h r d) rfl)

/-- After the rounds before the last payload, what is marked is at or above the 19th successive maximum. -/
theorem marks_18 (k : Vec Ideal S1x2048x128 .f32) :
    Marks (k0_pay13 k) 18 (k0_pay16 (k0_pay13 k) (k0_pay15 (k0_pay13 k) (k0_pay14 k))) := by
  generalize hx : k0_pay13 k = x
  have e14 : k0_pay14 k = round x (round x (round x (cmpf .oge x (colMax x)))) := by rw [← hx]; rfl
  have e15 : ∀ M, k0_pay15 x M = unmarked x (round x (round x (round x (round x (round x (round x (round x M))))))) :=
    fun M => rfl
  have e16 : ∀ M, k0_pay16 x (unmarked x M)
      = round x (round x (round x (round x (round x (round x (round x (round x M))))))) := fun M => rfl
  rw [e14, e15, e16]
  exact marks_round <| marks_round <| marks_round <| marks_round <| marks_round <| marks_round <| marks_round <|
    marks_round <| marks_round <| marks_round <| marks_round <| marks_round <| marks_round <| marks_round <|
    marks_round <| marks_round <| marks_round <| marks_round <| marks_zero x

/-! ## The quantised keys and values -/

/-- One head of a block of three axes, as a matrix. -/
def head {φ : FTy} (x : FVec Ideal S1x2048x128 φ) : Mat := fun r d => x (ix3 0 r d)

theorem iso_apply (k : Vec Ideal S1x2048x128 .f32) (r : Fin 2048) (d : Fin 128) :
    k0_pay12 (F := Ideal) k (ix2 r d) = iso (head (φ := .f32) k) r d := by
  pointwise [k0_pay12, k0_pay11, k0_pay9]
  rw [sink_bit, select_ofBool]
  rfl

theorem mag_apply (k : Vec Ideal S1x2048x128 .f32) (r : Fin 2048) (d : Fin 128) :
    k0_pay13 (F := Ideal) k (ix2 r d) = mag (head (φ := .f32) k) r d := by
  have h : k0_pay13 (F := Ideal) k (ix2 r d)
      = max (k0_pay12 (F := Ideal) k (ix2 r d)) (-(k0_pay12 (F := Ideal) k (ix2 r d))) := rfl
  rw [h, iso_apply]
  rfl

theorem step_ne_zero (t : EReal) : step t ≠ 0 := by
  obtain ⟨e, he, ht⟩ := Consts.ofBits_tiny
  have hm : (0 : EReal) < max t tiny := lt_max_of_lt_right (by rw [tiny, ht]; exact_mod_cast he)
  rw [step, Ideal.div_coe (by norm_num)]
  exact (EReal.mul_pos hm (by norm_num)).ne'

/-- Multiplying by the reciprocal of the step is dividing by the step. -/
theorem mul_recip (t x : EReal) : x * Ideal.div 1 (step t) = Ideal.div x (step t) := by
  rw [Ideal.div, Ideal.div, if_neg (step_ne_zero t), if_neg (step_ne_zero t), one_mul]

/-- The quantised keys: the threshold is the 21st successive maximum of the channel. -/
theorem keys_apply (k : Vec Ideal S1x2048x128 .f32) (r : Fin 2048) (d : Fin 128) :
    k0_pay17 (F := Ideal) (k0_pay9 k) k0_pay11 (k0_pay12 k) (k0_pay13 k)
        (k0_pay16 (k0_pay13 k) (k0_pay15 (k0_pay13 k) (k0_pay14 k))) (ix2 r d)
      = cache (keyThr (head (φ := .f32) k)) (head (φ := .f32) k) r d := by
  have hM := marks_18 k
  have hcol : (fun r => k0_pay13 (F := Ideal) k (ix2 r d)) = fun r => mag (head (φ := .f32) k) r d :=
    funext fun r => mag_apply k r d
  generalize k0_pay16 (k0_pay13 k) (k0_pay15 (k0_pay13 k) (k0_pay14 k)) = M at hM ⊢
  have hT : ∀ r, colMax (unmarked (k0_pay13 k) (round (k0_pay13 k) M)) (ix2 r d) = keyThr (head (φ := .f32) k) r d :=
    fun r => by rw [colMax_unmarked (marks_round hM), hcol]; rfl
  have h9 : k0_pay9 (F := Ideal) k (ix2 r d) = head (φ := .f32) k r d := by pointwise [k0_pay9]; rfl
  have h11 : k0_pay11 (ix2 r 0) = BitVec.ofBool (decide (r.val < 4)) := by pointwise [k0_pay11]; exact sink_bit r
  have h := iso_apply k r d
  have hm := mag_apply k r d
  generalize k0_pay13 (F := Ideal) k = x at *
  generalize k0_pay12 (F := Ideal) k = y at *
  generalize k0_pay9 (F := Ideal) k = z at *
  generalize k0_pay11 = s at *
  have hT' := hT r
  clear hT hcol hM
  pointwise [colMax, unmarked, round] at hT'
  pointwise [k0_pay17]
  rw [h11, select_ofBool, hT', hm, h, h9, Consts.ofBits_seven, Consts.ofBits_neg_eight]
  unfold cache quant
  by_cases hr : r.val < 4
  · rw [if_pos hr, if_pos hr]
  · rw [if_neg hr, if_neg hr, ← mul_recip]
    rfl

end Cert.KernelPrep

end
-- ==== Proof.KernelAttend.lean ====
module
public import proofs.«01_k».proof.Proof.KernelRun
public import proofs.«01_k».proof.Proof.KernelPrep

/-! One block of output rows: the running sums add up to the two sums of causal attention, so that the
    block holds rows `512 b` to `512 b + 511` of the attention of the prepared queries, keys and values. -/

@[expose] public section
set_option maxRecDepth 16384
noncomputable section

open Idealize.ShloMosaic

namespace Cert.KernelAttend

open Cert.KernelIdeal Cert.KernelIdeal.Gen Cert.KernelRun Cert.Model Cert.Words

/-- Row `a` of block `n`. -/
def row (n : ℕ) (a : Fin 512) : Fin 2048 := ⟨(512 * n + a.val) % 2048, Nat.mod_lt _ (by decide)⟩

theorem rows_apply (X : Vec Ideal S2048x128 .bf16) (n : ℕ) (a : Fin 512) (d : Fin 128) :
    rows X n (ix2 a d) = X (ix2 (row n a) d) := rfl

/-- The kernel's factor on the logits: the division by `√128`, and by `log 2` for powers of two. -/
def scale : ℝ := (Real.sqrt 128)⁻¹ * (Real.log 2)⁻¹

/-- The sum of `F` over the columns of the first `n` blocks. -/
def below (F : Fin 2048 → EReal) (n : ℕ) : EReal := ∑ j ∈ Finset.range n, ∑ c : Fin 512, F (row j c)

/-- The sum of `F` over the columns of block `b` up to the diagonal. -/
def diag (F : Fin 2048 → EReal) (b : ℕ) (a : Fin 512) : EReal := ∑ c : Fin 512, if c ≤ a then F (row b c) else 0

theorem below_zero (F : Fin 2048 → EReal) : below F 0 = 0 := rfl

theorem below_succ (F : Fin 2048 → EReal) (n : ℕ) : below F (n + 1) = below F n + ∑ c : Fin 512, F (row n c) :=
  Finset.sum_range_succ _ _

theorem sum_upto (g : ℕ → EReal) {R N : ℕ} (h : R < N) :
    (∑ c ∈ Finset.range N, if c ≤ R then g c else 0) = ∑ c ∈ Finset.range (R + 1), g c := by
  rw [← Finset.sum_filter]
  congr 1
  ext c
  simp only [Finset.mem_filter, Finset.mem_range]
  omega

/-- The blocks before the diagonal and the diagonal block make up the columns `c ≤ 512 b + a`. -/
theorem total (F : Fin 2048 → EReal) (b : ℕ) (hb : b < 4) (a : Fin 512) :
    diag F b a + below F b = ∑ c : Fin 2048, if c ≤ row b a then F c else 0 := by
  let f : ℕ → EReal := fun n => if h : n < 2048 then F ⟨n, h⟩ else 0
  have hf : ∀ c : Fin 2048, F c = f c.val := fun c => by simp only [f, c.isLt, dite_true]
  have hrow : ∀ j < 4, ∀ c : Fin 512, (row j c).val = 512 * j + c.val := fun j hj c =>
    Nat.mod_eq_of_lt (by omega)
  have hlow : ∀ n ≤ 4, below F n = ∑ c ∈ Finset.range (512 * n), f c := fun n => by
    induction n with
    | zero => intro _; rfl
    | succ n ih =>
      intro hn
      rw [below_succ, ih (by omega), Nat.mul_succ, Finset.sum_range_add]
      congr 1
      rw [← Fin.sum_univ_eq_sum_range (fun x => f (512 * n + x))]
      exact Finset.sum_congr rfl fun c _ => by rw [hf, hrow n (by omega)]
  have hdiag : diag F b a = ∑ c ∈ Finset.range (a.val + 1), f (512 * b + c) := by
    rw [← sum_upto _ a.isLt, ← Fin.sum_univ_eq_sum_range (fun c => if c ≤ a.val then f (512 * b + c) else 0), diag]
    exact Finset.sum_congr rfl fun c _ => by simp only [hf, hrow b hb, Fin.le_def]
  have hall : (∑ c : Fin 2048, if c ≤ row b a then F c else 0)
      = ∑ c ∈ Finset.range (512 * b + a.val + 1), f c := by
    rw [← sum_upto f (N := 2048) (by omega), ← Fin.sum_univ_eq_sum_range (fun c => if c ≤ 512 * b + a.val then f c else 0)]
    exact Finset.sum_congr rfl fun c _ => by simp only [hf, hrow b hb, Fin.le_def]
  rw [hall, hdiag, hlow b (by omega), add_assoc (512 * b), Finset.sum_range_add f (512 * b), add_comm]

section

variable {Q K V : Vec Ideal S2048x128 .bf16} {q k : Fin 2048 → Fin 128 → ℝ} {v : Mat}
variable (hQ : ∀ r d, Q (ix2 r d) = ((q r d * scale : ℝ) : EReal))
variable (hK : ∀ r d, K (ix2 r d) = ((k r d : ℝ) : EReal))
variable (hV : ∀ r d, V (ix2 r d) = v r d)

include hQ hK

theorem score (b n : ℕ) (a c : Fin 512) :
    (∑ x : Fin 128, rows Q b (ix2 a x) * rows K n (ix2 c x) : EReal)
      = ((logit q k (row b a) (row n c) * (Real.log 2)⁻¹ : ℝ) : EReal) := by
  have h : ∀ x : Fin 128, (rows Q b (ix2 a x) * rows K n (ix2 c x) : EReal)
      = ((q (row b a) x * k (row n c) x * scale : ℝ) : EReal) := fun x => by
    rw [rows_apply, rows_apply, hQ, hK, ← EReal.coe_mul]
    congr 1
    ring
  rw [Finset.sum_congr rfl fun x _ => h x, sum_coe, ← Finset.sum_mul, logit, scale, mul_assoc]

omit hQ hK in
theorem exp2_log (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

/-- The weights of a key block below the diagonal. -/
theorem weight (b n : ℕ) (a c : Fin 512) : k0_pay1 (rows Q b) (rows K n) (ix2 a c)
    = ((Real.exp (logit q k (row b a) (row n c)) : ℝ) : EReal) := by
  pointwise [k0_pay1]
  rw [score hQ hK]
  exact exp2_log _

/-- The weights of the diagonal block: none above the diagonal. -/
theorem weight_diag (b : ℕ) (a c : Fin 512) : k0_pay26 (rows Q b) (rows K b) (ix2 a c)
    = (if c ≤ a then ((Real.exp (logit q k (row b a) (row b c)) : ℝ) : EReal) else 0 : EReal) := by
  unfold k0_pay26
  dsimp only
  pointwise
  rw [score hQ hK, sgt_small (by omega) (by omega), select_ofBool, Consts.named_mask]
  by_cases h : c ≤ a
  · rw [if_neg (by rw [Fin.le_def] at h; omega), if_pos h]
    exact exp2_log _
  · rw [if_pos (by rw [Fin.le_def] at h; omega), if_neg h]
    exact Ideal.exp2_bot

/-- The row sums: the diagonal block, then the blocks below it. -/
theorem accs_fst (b : ℕ) (a : Fin 512) (n : ℕ) : (accs Q K V b n).1 (ix2 a 0)
    = diag (fun c => ((Real.exp (logit q k (row b a) c) : ℝ) : EReal)) b a
      + below (fun c => ((Real.exp (logit q k (row b a) c) : ℝ) : EReal)) n := by
  induction n with
  | zero =>
    rw [below_zero, add_zero, diag]
    refine Eq.trans ?_ (Finset.sum_congr rfl fun c _ => weight_diag hQ hK b a c)
    show k0_pay27 _ _ _ = _
    pointwise [k0_pay27]
  | succ n ih =>
    rw [below_succ, ← add_assoc, ← ih]
    refine Eq.trans ?_ (congrArg (_ + ·) (Finset.sum_congr rfl fun c _ => weight hQ hK b n a c))
    show k0_pay2 _ _ _ _ = _
    pointwise [k0_pay2]

include hV

/-- The weighted sums of the value rows. -/
theorem accs_snd (b : ℕ) (a : Fin 512) (d : Fin 128) (n : ℕ) : (accs Q K V b n).2 (ix2 a d)
    = diag (fun c => ((Real.exp (logit q k (row b a) c) : ℝ) : EReal) * v c d) b a
      + below (fun c => ((Real.exp (logit q k (row b a) c) : ℝ) : EReal) * v c d) n := by
  induction n with
  | zero =>
    have h : ∀ c : Fin 512, k0_pay26 (rows Q b) (rows K b) (ix2 a c) * rows V b (ix2 c d)
        = (if c ≤ a then ((Real.exp (logit q k (row b a) (row b c)) : ℝ) : EReal) * v (row b c) d else 0 : EReal) := fun c => by
      rw [weight_diag hQ hK, rows_apply, hV, ite_mul, zero_mul]
    rw [below_zero, add_zero, diag]
    refine Eq.trans ?_ (Finset.sum_congr rfl fun c _ => h c)
    show k0_pay28 _ _ _ _ = _
    pointwise [k0_pay28]
  | succ n ih =>
    have h : ∀ c : Fin 512, k0_pay1 (rows Q b) (rows K n) (ix2 a c) * rows V n (ix2 c d)
        = ((Real.exp (logit q k (row b a) (row n c)) : ℝ) : EReal) * v (row n c) d := fun c => by
      rw [weight hQ hK, rows_apply, hV]
    rw [below_succ, ← add_assoc, ← ih]
    refine Eq.trans ?_ (congrArg (_ + ·) (Finset.sum_congr rfl fun c _ => h c))
    show k0_pay3 _ _ _ _ _ = _
    pointwise [k0_pay3]

/-- The block of output rows is the attention of the prepared head. -/
theorem blockOut_apply (b : ℕ) (hb : b < 4) (a : Fin 512) (d : Fin 128) :
    blockOut Q K V b (ix3 0 a d) = attend q k v (row b a) d := by
  have h : blockOut Q K V b (ix3 0 a d)
      = (accs Q K V b b).2 (ix2 a d) * Ideal.div 1 ((accs Q K V b b).1 (ix2 a 0)) := by
    unfold blockOut
    pointwise [k0_pay7]
  have hpos : 0 < ∑ c : Fin 2048, if c ≤ row b a then Real.exp (logit q k (row b a) c) else 0 :=
    Finset.sum_pos' (fun c _ => by split <;> positivity)
      ⟨row b a, Finset.mem_univ _, by rw [if_pos le_rfl]; exact Real.exp_pos _⟩
  have hz : (∑ c : Fin 2048, if c ≤ row b a then ((Real.exp (logit q k (row b a) c) : ℝ) : EReal) else 0)
      = ((∑ c : Fin 2048, if c ≤ row b a then Real.exp (logit q k (row b a) c) else 0 : ℝ) : EReal) :=
    (Finset.sum_congr rfl fun c _ => by split <;> rfl).trans (sum_coe Finset.univ _)
  rw [h, accs_fst hQ hK, accs_snd hQ hK hV, total _ b hb a, total _ b hb a, hz, Ideal.div_coe hpos.ne', one_mul, attend]

end

end Cert.KernelAttend
end
-- ==== Proof.KernelValues.lean ====
/- The values' cache that the kernel prepares for one head, entry by entry: kept exactly are the sinks and what equals
   the token's largest magnitude, the rest is quantised with the token's second largest. -/
module

public import proofs.«01_k».proof.Proof.KernelPrep

@[expose] public section

set_option maxRecDepth 16384

noncomputable section

open Idealize.ShloMosaic

namespace Cert.KernelValues

open Cert.KernelIdeal Cert.KernelIdeal.Gen Cert.Model Cert.Words Cert.KernelPrep
open Cert.KernelIdeal.Facts

variable [Cert.KernelIdeal.Facts]

/-- Replacing what equals the maximum is replacing what is at or above it. -/
theorem below_top {n : ℕ} (a : Fin n → EReal) :
    (fun i => if a i = Ranking.top a then ((-1 : ℝ) : EReal) else a i) = Ranking.below a (Ranking.top a) := by
  funext i
  have h : a i ≤ Ranking.top a := Finset.le_sup (f := a) (Finset.mem_univ i)
  unfold Ranking.below
  by_cases hi : a i = Ranking.top a
  · rw [if_pos hi, if_pos hi.ge]
  · rw [if_neg hi, if_neg fun hle => hi (le_antisymm h hle)]

/-- The fold that a row's maximum is printed as. -/
theorem fold_top {n : ℕ} (a : Fin n → EReal) : Finset.fold max ⊥ a Finset.univ = Ranking.top a := rfl

theorem values_apply (v : Vec Ideal S1x2048x128 .f32) (r : Fin 2048) (d : Fin 128) :
    k0_pay25 (F := Ideal) (k0_pay21 (k0_pay10 v) k0_pay11) (ix2 r d) = valCache (head (φ := .f32) v) r d := by
  have h10 : ∀ d, k0_pay10 (F := Ideal) v (ix2 r d) = head (φ := .f32) v r d := fun d => by pointwise [k0_pay10]; rfl
  have h11 : k0_pay11 (ix2 r 0) = BitVec.ofBool (decide (r.val < 4)) := by pointwise [k0_pay11]; exact sink_bit r
  generalize k0_pay10 (F := Ideal) v = x at *
  generalize k0_pay11 = s at *
  pointwise [k0_pay25, k0_pay21]
  simp only [h10, h11, select_ofBool, Consts.ofBits_neg_inf, Consts.ofBits_neg_one, Consts.ofBits_seven,
    Consts.ofBits_neg_eight]
  unfold valCache
  by_cases hr : r.val < 4
  · rw [if_pos hr, if_pos hr]
  · have hi : ∀ d, iso (head (φ := .f32) v) r d = head (φ := .f32) v r d := fun d => if_neg hr
    have ha : ∀ d, FloatOps.absf (F := Ideal) (φ := .f32) (head (φ := .f32) v r d) = mag (head (φ := .f32) v) r d :=
      fun d => by rw [mag, hi]; rfl
    simp only [if_neg hr, ha, hi, fold_top, below_top]
    refine if_congr Iff.rfl rfl ?_
    rw [quant, ← mul_recip]
    rfl

end Cert.KernelValues

end
-- ==== Proof.Order.lean ====
/- `top_k` along the last axis of a rank-3 array of extended reals, read at an index: the values and the positions it
   returns are those of one ranking of the line. -/
module

public import proofs.«01_k».proof.Proof.Ranking
public import proofs.«01_k».proof.Proof.Words
public import Idealize.ShloMosaic.PureOps.Ideal
public import Idealize.ShloMosaic.Lib.Routing.OpsOrder
public import Idealize.ShloMosaic.Lib.SortFacts
public import Idealize.ShloMosaic.Lib.Pointwise

@[expose] public section

set_option maxRecDepth 16384

open Idealize.ShloMosaic Idealize.ShloMosaic.Pointwise Cert.Ranking

noncomputable section

namespace Cert.Order

/-- The positions of a family from its largest value to its smallest, equal values in position order. -/
def order {N : ℕ} (f : Fin N → EReal) : Fin N → Fin N :=
  sortedFrom fun i j => (FloatOps.cmpfTotal (F := Ideal) (φ := .f32) .gt (f i) (f j) : BitVec 1) == 1#1

theorem gt_bit (x y : EReal) : ((FloatOps.cmpfTotal (F := Ideal) (φ := .f32) .gt x y : BitVec 1) == 1#1) = decide (y < x) := by
  show (BitVec.ofBool (decide (y < x)) == 1#1) = decide (y < x)
  by_cases h : y < x <;> simp [h]

theorem ranks_order {N : ℕ} (f : Fin N → EReal) : Ranks f (order f) where
  surj := sortedFrom_surjective _
  inj := sortedFrom_injective _
  anti i j hij := by
    rcases hij.eq_or_lt with rfl | hlt
    · exact le_rfl
    · have h : decide (f (order f i) < f (order f j)) = false := sortedFrom_noInversion (fun i j => decide (f j < f i))
        (fun i j => (FloatOps.cmpfTotal (F := Ideal) (φ := .f32) .gt (f i) (f j) : BitVec 1) == 1#1)
        (fun a b hab => by rw [gt_bit] at hab; simp at hab ⊢; exact hab.le)
        (fun a b hab => by rw [gt_bit]; exact hab)
        (fun a b c hab hbc => by simp at hab hbc ⊢; exact hab.trans hbc) i j hlt
      exact not_lt.mp (of_decide_eq_false h)

variable {A B N n : ℕ}

/-- Moving along the last axis replaces the last coordinate. -/
theorem along_last (a : Fin A) (b : Fin B) (j r : Fin N) :
    Shape.Idx.along (s := ⟨3, ![A, B, N]⟩) (ix3 a b j) 2 r = ix3 a b r := by
  funext c
  match c with
  | ⟨0, _⟩ => rfl
  | ⟨1, _⟩ => rfl
  | ⟨2, _⟩ => rfl

/-- A leading block keeps the coordinates. -/
theorem slice_index (hn : n ≤ N) (h : (⟨3, ![A, B, N]⟩ : Shape).Slices (fun _ => 0) ⟨3, ![A, B, n]⟩) {α : Type}
    (x : (⟨3, ![A, B, N]⟩ : Shape).Idx → α) (a : Fin A) (b : Fin B) (j : Fin n) :
    extractStridedSlice ⟨3, ![A, B, n]⟩ (fun _ => 0) x h (ix3 a b j) = x (ix3 a b ⟨j.val, lt_of_lt_of_le j.isLt hn⟩) := by
  unfold extractStridedSlice
  congr 1
  funext c
  match c with
  | ⟨0, _⟩ => exact Fin.ext (Nat.zero_add _)
  | ⟨1, _⟩ => exact Fin.ext (Nat.zero_add _)
  | ⟨2, _⟩ => exact Fin.ext (Nat.zero_add _)

/-- The position `top_k` returns at place `j` of the line `(a, b)`. -/
theorem topK_position (x : Vec Ideal ⟨3, ![A, B, N]⟩ .f32) (hn : n ≤ N)
    (h : (⟨3, ![A, B, N]⟩ : Shape).Slices (fun _ => 0) ⟨3, ![A, B, n]⟩) (a : Fin A) (b : Fin B) (j : Fin n) :
    (Host.topK ⟨3, ![A, B, n]⟩ 2 (FloatOps.cmpfTotal (F := Ideal) (φ := .f32) .gt) x h).2 (ix3 a b j)
      = BitVec.ofNat 32 (order (fun r => x (ix3 a b r)) ⟨j.val, lt_of_lt_of_le j.isLt hn⟩).val := by
  unfold Host.topK Host.sort2
  have h2 : 2 < (⟨3, ![A, B, N]⟩ : Shape).rank := Nat.lt_succ_self 2
  simp only [dif_pos h2]
  rw [slice_index hn]
  exact congrArg (fun f : Fin N → EReal => BitVec.ofNat 32 (order f ⟨j.val, lt_of_lt_of_le j.isLt hn⟩).val)
    (funext fun r => congrArg x (along_last a b _ r))

/-- The value `top_k` returns at place `j` of the line `(a, b)`. -/
theorem topK_value (x : Vec Ideal ⟨3, ![A, B, N]⟩ .f32) (hn : n ≤ N)
    (h : (⟨3, ![A, B, N]⟩ : Shape).Slices (fun _ => 0) ⟨3, ![A, B, n]⟩) (a : Fin A) (b : Fin B) (j : Fin n) :
    (Host.topK ⟨3, ![A, B, n]⟩ 2 (FloatOps.cmpfTotal (F := Ideal) (φ := .f32) .gt) x h).1 (ix3 a b j)
      = x (ix3 a b (order (fun r => x (ix3 a b r)) ⟨j.val, lt_of_lt_of_le j.isLt hn⟩)) := by
  unfold Host.topK Host.sort2
  have h2 : 2 < (⟨3, ![A, B, N]⟩ : Shape).rank := Nat.lt_succ_self 2
  simp only [dif_pos h2]
  rw [slice_index hn]
  refine congrArg x ((along_last a b _ _).trans ?_)
  exact congrArg (fun f : Fin N → EReal => ix3 a b (order f ⟨j.val, lt_of_lt_of_le j.isLt hn⟩))
    (funext fun r => congrArg x (along_last a b _ r))

/-- The mark "`r` is one of the positions `top_k` returns". -/
theorem topK_marks (x : Vec Ideal ⟨3, ![A, B, N]⟩ .f32) (hn : n ≤ N) (hN : N < 2 ^ 31)
    (h : (⟨3, ![A, B, N]⟩ : Shape).Slices (fun _ => 0) ⟨3, ![A, B, n]⟩) (a : Fin A) (b : Fin B) (r : Fin N)
    {f : Fin N → EReal} (hf : ∀ r, x (ix3 a b r) = f r) :
    Finset.fold IntOp.ori (0#1) (fun j : Fin n => IntOp.cmpi .eq
        ((Host.topK ⟨3, ![A, B, n]⟩ 2 (FloatOps.cmpfTotal (F := Ideal) (φ := .f32) .gt) x h).2 (ix3 a b j))
        (BitVec.ofNat 32 r.val)) Finset.univ = 1#1
      ↔ ∃ j : Fin n, order f ⟨j.val, lt_of_lt_of_le j.isLt hn⟩ = r := by
  obtain rfl : (fun r => x (ix3 a b r)) = f := funext hf
  have e : ∀ j : Fin n, IntOp.cmpi .eq
        ((Host.topK ⟨3, ![A, B, n]⟩ 2 (FloatOps.cmpfTotal (F := Ideal) (φ := .f32) .gt) x h).2 (ix3 a b j))
        (BitVec.ofNat 32 r.val)
      = BitVec.ofBool (decide (order (fun r => x (ix3 a b r)) ⟨j.val, lt_of_lt_of_le j.isLt hn⟩ = r)) := fun j => by
    rw [topK_position x hn h a b j, Words.eq_small (lt_trans (Fin.isLt _) hN) (lt_trans (Fin.isLt _) hN)]
    exact Words.bit_congr Fin.ext_iff.symm
  rw [Routing.fold_ori]
  constructor
  · rintro ⟨j, -, hj⟩
    rw [e] at hj
    exact ⟨j, Words.bit_iff.mp hj⟩
  · rintro ⟨j, hj⟩
    exact ⟨j, Finset.mem_univ j, by rw [e]; exact Words.bit_iff.mpr hj⟩

end Cert.Order
end
-- ==== Proof.Heads.lean ====
/- The heads of an argument as matrices, and the strict drops of a ranking that the claims suppose. -/
module

public import proofs.«01_k».proof.Proof.Model
public import proofs.«01_k».proof.Proof.Order
public import proofs.«01_k».proof.Proof.Consts
public import Idealize.ShloMosaic.Lib.Pointwise

@[expose] public section

open Idealize.ShloMosaic Idealize.ShloMosaic.Pointwise

noncomputable section

namespace Cert.Model

/-- Head `h` of an argument, as a matrix. -/
def headMat (A : Vec Ideal ⟨4, ![1, 16, 2048, 128]⟩ .f32) (h : Fin 16) : Mat := fun r d => A (ix4 0 h r d)

/-- The ranking of `f` strictly drops after each of its first `n` places. -/
def Drops {N : ℕ} (f : Fin N → EReal) (n : ℕ) (hn : n < N) : Prop :=
  ∀ j (hj : j < n), f (Order.order f ⟨j + 1, by omega⟩) < f (Order.order f ⟨j, by omega⟩)

section Drops

variable {N n : ℕ} {hn : n < N} {f : Fin N → EReal}

/-- The `n`-th successive maximum is the value at place `n` of the ranking. -/
theorem peel_drops (h0 : ∀ i, 0 ≤ f i) (hs : Drops f n hn) : Ranking.peel f n = f (Order.order f ⟨n, hn⟩) :=
  Ranking.peel_eq (Order.ranks_order f) h0 hn hs n le_rfl

/-- Being among the first `n` of the ranking is exceeding the `n`-th successive maximum. -/
theorem first_drops (h0 : ∀ i, 0 ≤ f i) (hs : Drops f n hn) (r : Fin N) :
    (∃ j : Fin n, Order.order f ⟨j.val, by omega⟩ = r) ↔ Ranking.peel f n < f r := by
  rw [peel_drops h0 hs]
  exact Ranking.first_iff (Order.ranks_order f) hn hs r

/-- The maximum of what does not exceed the `n`-th successive maximum is that value. -/
theorem rest_drops (h0 : ∀ i, 0 ≤ f i) (hs : Drops f n hn) {b : Fin N → EReal}
    (hb : ∀ r, b r = if Ranking.peel f n < f r then 0 else f r) : Ranking.top b = Ranking.peel f n := by
  have e := peel_drops h0 hs
  rw [e]
  exact Ranking.top_rest (Order.ranks_order f) h0 hn hs fun r => by rw [hb r, e]

/-- The same maximum for a named threshold. -/
theorem rest_thr (h0 : ∀ i, 0 ≤ f i) (hs : Drops f n hn) {t : EReal} (ht : t = Ranking.peel f n) {b : Fin N → EReal}
    (hb : ∀ r, b r = if t < f r then 0 else f r) : Ranking.top b = t := by
  subst ht
  exact rest_drops h0 hs hb

/-- With a drop after the first place, reaching the maximum is exceeding the second successive maximum. -/
theorem top_drops {h1 : 1 < N} (h0 : ∀ i, 0 ≤ f i) (hs : Drops f 1 h1) (r : Fin N) :
    f r = Ranking.top f ↔ Ranking.peel f 1 < f r := by
  rw [peel_drops h0 hs]
  exact Ranking.eq_top_iff (Order.ranks_order f) h1 (hs 0 Nat.one_pos) r

end Drops

theorem keyThr_eq (x : Mat) (r : Fin 2048) (d : Fin 128) :
    keyThr x r d = Ranking.peel (fun r => mag x r d) 20 := by
  rw [keyThr]

/-- The keys' threshold does not depend on the token. -/
theorem keyThr_row (x : Mat) (r r' : Fin 2048) (d : Fin 128) : keyThr x r d = keyThr x r' d := by
  rw [keyThr, keyThr]

theorem valThr_eq (x : Mat) (r : Fin 2048) (d : Fin 128) :
    valThr x r d = Ranking.peel (fun d => mag x r d) 1 := by
  rw [valThr]

/-- The values' threshold does not depend on the channel. -/
theorem valThr_col (x : Mat) (r : Fin 2048) (d d' : Fin 128) : valThr x r d = valThr x r d' := by
  rw [valThr, valThr]

theorem mag_nonneg (x : Mat) (r : Fin 2048) (d : Fin 128) : 0 ≤ mag x r d := by
  unfold mag
  rcases le_total 0 (iso x r d) with h | h
  · exact le_max_of_le_left h
  · exact le_max_of_le_right (EReal.le_neg_of_le_neg (by simpa using h))

/-- The magnitude of an entry set to zero unless kept. -/
theorem rest_mag (x : Mat) (p : Prop) [Decidable p] (r : Fin 2048) (d : Fin 128) :
    max (if p then 0 else iso x r d) (-(if p then 0 else iso x r d)) = if p then 0 else mag x r d := by
  split
  · simp
  · rfl

end Cert.Model

end
-- ==== Proof.KernelValue.lean ====
module
public import proofs.«01_k».proof.Proof.KernelArray
public import proofs.«01_k».proof.Proof.KernelAttend
public import proofs.«01_k».proof.Proof.KernelValues
public import proofs.«01_k».proof.Proof.Heads

/-! The kernel's result: the causal attention of the rotated queries, the rotated cached keys and the cached values,
    whenever the queries and keys are real numbers. -/

@[expose] public section
set_option maxRecDepth 16384
noncomputable section

open Idealize.ShloMosaic

namespace Cert.KernelValue

open Cert.KernelIdeal Cert.KernelIdeal.Gen Cert.KernelRun Cert.KernelArray Cert.KernelAttend Cert.KernelPrep Cert.Model

theorem queries_apply (A : Vec Ideal S1x16x2048x128 .f32) (h : Fin 16) (r : Fin 2048) (d : Fin 128) :
    queries (F := Ideal) (headOf A h) (k0_pay23 (F := Ideal)) (k0_pay24 (F := Ideal)) (ix2 r d) = rope (headMat A h) r d * ((scale : ℝ) : EReal) := by
  have e : mat (φ := .f32) (k0_pay8 (headOf A h)) = headMat A h := by
    funext r d
    show k0_pay8 (F := Ideal) (headOf A h) (ix2 r d) = _
    pointwise [k0_pay8]
    rfl
  rw [← e]
  exact query_apply cos_apply sin_apply _ r d

theorem keys_apply (A : Vec Ideal S1x16x2048x128 .f32) (h : Fin 16) (r : Fin 2048) (d : Fin 128) :
      keys (F := Ideal) (headOf A h) (k0_pay23 (F := Ideal)) (k0_pay24 (F := Ideal)) (ix2 r d) = rope (cache (keyThr (headMat A h)) (headMat A h)) r d := by
  refine (key_apply cos_apply sin_apply _ _ _ _ _ r d).trans ?_
  exact congrArg (fun X : Mat => rope X r d) (funext fun r => funext fun d => KernelPrep.keys_apply (headOf A h) r d)

theorem values_apply (A : Vec Ideal S1x16x2048x128 .f32) (h : Fin 16) (r : Fin 2048) (d : Fin 128) :
    values (headOf A h) (ix2 r d) = valCache (headMat A h) r d :=
  KernelValues.values_apply (headOf A h) r d

/-- The kernel's result at row `r` and channel `d` of head `h`. -/
theorem result_eq (A B C : Vec Ideal S1x16x2048x128 .f32) (h : Fin 16) {q k : Fin 2048 → Fin 128 → ℝ}
    (hq : ∀ r d, rope (headMat A h) r d = ((q r d : ℝ) : EReal))
    (hk : ∀ r d, rope (cache (keyThr (headMat B h)) (headMat B h)) r d = ((k r d : ℝ) : EReal))
    (r : Fin 2048) (d : Fin 128) :
    result A B C (ix3 h r d) = attend q k (valCache (headMat C h)) r d := by
  have hr : row (r.val / 512) ⟨r.val % 512, Nat.mod_lt _ (by decide)⟩ = r :=
    Fin.ext (show (512 * (r.val / 512) + r.val % 512) % 2048 = r.val by omega)
  have e := blockOut_apply (Q := queries (F := Ideal) (headOf A h) (k0_pay23 (F := Ideal)) (k0_pay24 (F := Ideal))) (K := keys (F := Ideal) (headOf B h) (k0_pay23 (F := Ideal)) (k0_pay24 (F := Ideal)))
    (V := values (headOf C h)) (q := q) (k := k) (v := valCache (headMat C h))
    (fun r d => by rw [queries_apply, hq, ← EReal.coe_mul]) (fun r d => by rw [keys_apply, hk])
    (fun r d => values_apply C h r d) (r.val / 512) (by omega) ⟨r.val % 512, Nat.mod_lt _ (by decide)⟩ d
  rw [hr] at e
  exact e

end Cert.KernelValue
end
-- ==== Proof.RefKeys.lean ====
/- The reference's quantised keys: its `top_k` outliers are the entries above the 21st of the channel's successive
   maxima, and its scale is that of the same value, so its cache is the kernel's. -/
module

public import proofs.«01_k».proof.Proof.Heads
public import proofs.«01_k».proof.Proof.Words
public import proofs.«01_k».proof.Proof.Consts
public import proofs.«01_k».proof.Proof.Gen.ReferenceIdeal.Run
public import Idealize.ShloMosaic.Lib.Tactic.CleanTypes
public import Idealize.ShloMosaic.Lib.Routing.OpsOrder

@[expose] public section

set_option maxRecDepth 16384

open Idealize.ShloMosaic Idealize.ShloMosaic.TcCoe Idealize.ShloMosaic.Pointwise
open Cert.ReferenceIdeal Cert.ReferenceIdeal.Gen Cert.ReferenceIdeal.Value Cert.Model Cert.Words

noncomputable section

namespace Cert.RefKeys

/-- A bit is the truth of the statement it is one for. -/
theorem bit_eq {b : BitVec 1} {p : Prop} [Decidable p] (h : b = 1#1 ↔ p) : b = BitVec.ofBool (decide p) := by
  by_cases hp : p
  · rw [h.mpr hp]; simp [hp]
  · have hb : b ≠ 1#1 := fun e => hp (h.mp e)
    have : b = 0#1 := by
      revert hb
      exact (by decide : ∀ b : BitVec 1, b ≠ 1#1 → b = 0#1) b
    rw [this]; simp [hp]

theorem sitofp_seven : (FloatOps.sitofp (F := Ideal) FTy.f32 7#32 : EReal) = ((7 : ℝ) : EReal) := by
  show ((((7#32 : BitVec 32).toInt : ℝ)) : EReal) = _
  have : (7#32 : BitVec 32).toInt = 7 := by decide
  rw [this]; norm_num

theorem sitofp_neg_eight : (FloatOps.sitofp (F := Ideal) FTy.f32 4294967288#32 : EReal) = ((-8 : ℝ) : EReal) := by
  show ((((4294967288#32 : BitVec 32).toInt : ℝ)) : EReal) = _
  have : (4294967288#32 : BitVec 32).toInt = -8 := by decide
  rw [this]; norm_num

theorem absf_apply (x : FVec Ideal S16x2048x128 .f32) (i : S16x2048x128.Idx) :
    Host.absf x i = max (x i : EReal) (-(x i)) := rfl

variable (V0 : Valuation τ sig (Elt Ideal)) (h : Fin 16)

/-- The keys of head `h`. -/
def K : Mat := headMat (V0 (Proc.devRef .tc main_arg1)) h

theorem v1_apply (r : Fin 2048) (d : Fin 128) : res_main_v1 V0 (ix3 h r d) = K V0 h r d := by
  unfold res_main_v1; clean_types; pointwise; rfl

theorem v8_apply (r : Fin 2048) (d : Fin 128) : res_main_v8 V0 (ix3 h r d) = iso (K V0 h) r d := by
  unfold res_main_v8 res_main_v7; clean_types; pointwise [id_eq]
  rw [sink_bit, select_ofBool, v1_apply]
  rfl

theorem v10_apply (r : Fin 2048) (d : Fin 128) : res_main_v10 V0 (ix3 h d r) = mag (K V0 h) r d := by
  unfold res_main_v10; clean_types; pointwise
  exact congrArg (fun x : EReal => max x (-x)) (v8_apply V0 h r d)

/-- The largest entry of each channel. -/
def colMax (x : FVec Ideal S16x2048x128 .f32) : FVec Ideal S16x128 .f32 :=
  Host.reduce FloatOps.maximumf x (constant S_ .f32 0xFF800000#32) reducesTo_S16x2048x128_S16x128_d1 h_S_

/-- The scale of each channel for its largest entry. -/
def scaleOf (m : FVec Ideal S16x128 .f32) : FVec Ideal S16x1x128 .f32 :=
  Host.divf (maximumf
    (broadcastInDim S16x1x128 ![0, 2] bcast_S16x128_S16x1x128_0_2 m) (broadcastInDim S16x1x128 ![] bcast_S_S16x1x128 (constant S_ .f32 0x322BCC77#32))) (broadcastInDim S16x1x128 ![] bcast_S_S16x1x128 (constant S_ .f32 0x40E00000#32))

theorem colMax_apply (x : FVec Ideal S16x2048x128 .f32) (h : Fin 16) (d : Fin 128) :
    colMax x (ix2 h d) = Ranking.top fun r => x (ix3 h r d) := by
  pointwise [colMax]
  rw [Consts.ofBits_neg_inf]
  rfl

theorem scaleOf_apply (m : FVec Ideal S16x128 .f32) (h : Fin 16) (d : Fin 128) :
    scaleOf m (ix3 h 0 d) = Ideal.div (max (m (ix2 h d)) (Ideal.ofBits .f32 0x322BCC77#32)) (Ideal.ofBits .f32 0x40E00000#32) := by
  pointwise [scaleOf]

theorem v26_eq : res_main_v26 V0 = scaleOf (colMax (Host.absf (res_main_v19 V0))) := by
  rw [res_main_v26, scaleOf, colMax]
variable {V0 h} (hs : ∀ d : Fin 128, Drops (fun r => mag (K V0 h) r d) 20 (Nat.le_of_ble_eq_true rfl))
include hs

/-- The reference's outliers are the entries above the threshold. -/
theorem v18_apply (r : Fin 2048) (d : Fin 128) : res_main_v18 V0 (ix3 h r d)
    = BitVec.ofBool (decide (keyThr (K V0 h) r d < mag (K V0 h) r d)) := by
  unfold res_main_v18; clean_types; pointwise
  refine bit_eq ?_
  exact (Order.topK_marks (res_main_v10 V0) (Nat.le_of_ble_eq_true rfl) (Nat.le_of_ble_eq_true rfl)
    Gen.sliceFits_S16x128x2048_S16x128x20 h d r (fun r => v10_apply V0 h r d)).trans
    (first_drops (fun r => mag_nonneg _ r d) (hs d) r)

/-- What remains once the outliers are set to zero. -/
theorem v19_apply (r : Fin 2048) (d : Fin 128) : res_main_v19 V0 (ix3 h r d)
    = if keyThr (K V0 h) r d < mag (K V0 h) r d then 0 else iso (K V0 h) r d := by
  unfold res_main_v19; clean_types; pointwise [id_eq]
  rw [v18_apply hs, select_ofBool, v8_apply]

/-- The reference's scale is the kernel's. -/
theorem v26_apply (r : Fin 2048) (d : Fin 128) : res_main_v26 V0 (ix3 h 0 d) = step (keyThr (K V0 h) r d) := by
  have hb : ∀ x, (Host.absf (res_main_v19 V0) (ix3 h x d) : EReal)
      = if keyThr (K V0 h) r d < mag (K V0 h) x d then 0 else mag (K V0 h) x d := fun x => by
    rw [absf_apply, v19_apply hs x d, keyThr_row (K V0 h) x r d]
    exact rest_mag (K V0 h) _ x d
  have e : (Ranking.top fun x => (Host.absf (res_main_v19 V0) (ix3 h x d) : EReal)) = keyThr (K V0 h) r d :=
    rest_thr (fun r => mag_nonneg _ r d) (hs d) (keyThr_eq (K V0 h) r d) hb
  rw [v26_eq, scaleOf_apply, colMax_apply, Consts.ofBits_seven, e, step, tiny]

/-- The reference's quantised keys. -/
theorem v34_apply (r : Fin 2048) (d : Fin 128) :
    res_main_v34 V0 (ix3 h r d) = cache (keyThr (K V0 h)) (K V0 h) r d := by
  unfold res_main_v34 res_main_v7; clean_types; pointwise
  rw [sink_bit, select_ofBool, v1_apply, v18_apply hs, select_ofBool, v8_apply, v19_apply hs, v26_apply hs r d,
    sitofp_seven, sitofp_neg_eight]
  unfold cache
  split
  · rfl
  · split <;> rfl

end Cert.RefKeys

end
-- ==== Proof.RefRope.lean ====
/- The reference's rotation by position: its angles are the kernel's, since `1 / 10000 ^ (j / 64)` is
   `exp (-j * log 10000 / 64)`, and its "half-turned" array is the pairing of the kernel's. -/
module

public import proofs.«01_k».proof.Proof.RefKeys
public import proofs.«01_k».proof.Proof.Words
public import proofs.«01_k».proof.Proof.Consts
public import proofs.«01_k».proof.Proof.Gen.ReferenceIdeal.Run
public import Idealize.ShloMosaic.Lib.Tactic.CleanTypes
public import Idealize.ShloMosaic.Lib.Routing.OpsOrder

@[expose] public section

set_option maxRecDepth 16384

open Idealize.ShloMosaic Idealize.ShloMosaic.TcCoe Idealize.ShloMosaic.Pointwise
open Cert.ReferenceIdeal Cert.ReferenceIdeal.Gen Cert.ReferenceIdeal.Value Cert.Model Cert.Words Cert.RefKeys

noncomputable section

namespace Cert.RefRope

/-- The rotation as the reference writes it. -/
def rot (x : FVec Ideal S16x2048x128 .f32) (t : FVec Ideal S2048x64 .f32) : FVec Ideal S16x2048x128 .f32 :=
  addf (mulf x (broadcastInDim S16x2048x128 ![0, 1, 2] bcast_S1x2048x128_S16x2048x128_0_1_2 (broadcastInDim S1x2048x128 ![1, 2] bcast_S2048x128_S1x2048x128_1_2 (concatenate S2048x128 1 [⟨S2048x64, (Host.cos t)⟩, ⟨S2048x64, (Host.cos t)⟩] concatenates_S2048x64_S2048x64_S2048x128_d1)))) (mulf (concatenate S16x2048x128 2 [⟨S16x2048x64, (Host.negf (extractStridedSlice S16x2048x64 ![0, 0, 64] x slices_S16x2048x128_S16x2048x64_0_0_64))⟩, ⟨S16x2048x64, (extractStridedSlice S16x2048x64 ![0, 0, 0] x slices_S16x2048x128_S16x2048x64_0_0_0)⟩] concatenates_S16x2048x64_S16x2048x64_S16x2048x128_d2) (broadcastInDim S16x2048x128 ![0, 1, 2] bcast_S1x2048x128_S16x2048x128_0_1_2 (broadcastInDim S1x2048x128 ![1, 2] bcast_S2048x128_S1x2048x128_1_2 (concatenate S2048x128 1 [⟨S2048x64, (Host.sin t)⟩, ⟨S2048x64, (Host.sin t)⟩] concatenates_S2048x64_S2048x64_S2048x128_d1))))

theorem rot_apply (x : FVec Ideal S16x2048x128 .f32) (t : FVec Ideal S2048x64 .f32) (h : Fin 16)
    (ht : ∀ r j, t (ix2 r j) = ((angle r j : ℝ) : EReal)) (r : Fin 2048) (d : Fin 128) :
    rot x t (ix3 h r d) = rope (fun r d => x (ix3 h r d)) r d := by
  pointwise [rot]
  unfold rope
  by_cases hd : d.val < 64
  · simp only [hd, ↓reduceDIte, ht, Ideal.cos_coe, Ideal.sin_coe, cosT, sinT]
    rw [EReal.neg_mul, ← sub_eq_add_neg]
  · simp only [hd, ↓reduceDIte, ht, Ideal.cos_coe, Ideal.sin_coe, cosT, sinT]

/-- The angle as the reference computes it. -/
theorem angle_eq (r : Fin 2048) (j : Fin 64) :
    (r.val : ℝ) * (1 * (1 / Real.rpow 10000 ((j.val : ℝ) * (1 / 64)))) = angle r j := by
  unfold angle
  congr 1
  rw [one_mul, one_div, Real.rpow_eq_pow, ← Real.rpow_neg (by norm_num), Real.rpow_def_of_pos (by norm_num)]
  congr 1
  ring

theorem angle_words (p : BitVec 32) (r : Fin 2048) (hp : p = BitVec.ofNat 32 r.val) (j : Fin 64) :
    (FloatOps.sitofp (F := Ideal) FTy.f32 p : EReal) * Ideal.div 1
        (Ideal.pow (Ideal.ofBits FTy.f32 0x461C4000#32)
          (Ideal.div (FloatOps.sitofp (F := Ideal) FTy.f32 (BitVec.ofNat 32 j.val) : EReal) (Ideal.ofBits FTy.f32 0x42800000#32)))
      = ((angle r j : ℝ) : EReal) := by
  subst hp
  rw [Consts.ofBits_10000, Consts.ofBits_64]
  change ((((BitVec.ofNat 32 r.val).toInt : ℝ) : EReal)) * Ideal.div 1 (Ideal.pow _
    (Ideal.div (((BitVec.ofNat 32 j.val).toInt : ℝ) : EReal) _)) = _
  rw [toInt_small (by omega), toInt_small (by omega), Ideal.div_coe (by norm_num), ← EReal.coe_mul, Ideal.pow_coe_coe,
    Ideal.div_coe (show Real.rpow 10000 _ ≠ 0 from (Real.rpow_pos_of_pos (by norm_num) _).ne'), ← EReal.coe_one, ← EReal.coe_mul, ← EReal.coe_mul]
  refine congrArg _ ?_
  simp only [Int.cast_natCast]
  exact angle_eq r j

variable (V0 : Valuation τ sig (Elt Ideal))

/-- The positions are the tokens' indices. -/
def Positions : Prop := ∀ r : Fin 2048, V0 (Proc.devRef .tc main_arg3) (ix2 0 r) = BitVec.ofNat 32 r.val

variable {V0}

theorem v77_apply (hp : Positions V0) (r : Fin 2048) (j : Fin 64) :
    res_main_v77 V0 (ix2 r j) = ((angle r j : ℝ) : EReal) := by
  refine Eq.trans ?_ (angle_words _ r (hp r) j)
  unfold res_main_v77 res_main_v3; clean_types; pointwise

theorem v108_apply (hp : Positions V0) (r : Fin 2048) (j : Fin 64) :
    res_main_v108 V0 (ix2 r j) = ((angle r j : ℝ) : EReal) := by
  refine Eq.trans ?_ (angle_words _ r (hp r) j)
  unfold res_main_v108 res_main_v3; clean_types; pointwise

end Cert.RefRope

end
-- ==== Proof.RefValues.lean ====
/- The reference's quantised values: the entry that `top_k` keeps of a token is the one that reaches the token's
   maximum, and its scale is that of the second successive maximum, so its cache is the kernel's. -/
module

public import proofs.«01_k».proof.Proof.RefKeys
public import proofs.«01_k».proof.Proof.Words
public import proofs.«01_k».proof.Proof.Consts
public import proofs.«01_k».proof.Proof.Gen.ReferenceIdeal.Run
public import Idealize.ShloMosaic.Lib.Tactic.CleanTypes
public import Idealize.ShloMosaic.Lib.Routing.OpsOrder

@[expose] public section

set_option maxRecDepth 16384

open Idealize.ShloMosaic Idealize.ShloMosaic.TcCoe Idealize.ShloMosaic.Pointwise
open Cert.ReferenceIdeal Cert.ReferenceIdeal.Gen Cert.ReferenceIdeal.Value Cert.Model Cert.Words Cert.RefKeys

noncomputable section

namespace Cert.RefValues

/-- The largest entry of each token. -/
def rowMax (x : FVec Ideal S16x2048x128 .f32) : FVec Ideal S16x2048 .f32 :=
  Host.reduce FloatOps.maximumf x (constant S_ .f32 0xFF800000#32) reducesTo_S16x2048x128_S16x2048_d2 h_S_

/-- The scale of each token for its largest entry. -/
def scaleOf (m : FVec Ideal S16x2048 .f32) : FVec Ideal S16x2048x1 .f32 :=
  Host.divf (maximumf
    (broadcastInDim S16x2048x1 ![0, 1] bcast_S16x2048_S16x2048x1_0_1 m) (broadcastInDim S16x2048x1 ![] bcast_S_S16x2048x1 (constant S_ .f32 0x322BCC77#32))) (broadcastInDim S16x2048x1 ![] bcast_S_S16x2048x1 (constant S_ .f32 0x40E00000#32))

theorem rowMax_apply (x : FVec Ideal S16x2048x128 .f32) (h : Fin 16) (r : Fin 2048) :
    rowMax x (ix2 h r) = Ranking.top fun d => x (ix3 h r d) := by
  pointwise [rowMax]
  rw [Consts.ofBits_neg_inf]
  rfl

theorem scaleOf_apply (m : FVec Ideal S16x2048 .f32) (h : Fin 16) (r : Fin 2048) :
    scaleOf m (ix3 h r 0) = Ideal.div (max (m (ix2 h r)) (Ideal.ofBits .f32 0x322BCC77#32)) (Ideal.ofBits .f32 0x40E00000#32) := by
  pointwise [scaleOf]

variable (V0 : Valuation τ sig (Elt Ideal)) (h : Fin 16)

/-- The values of head `h`. -/
def V : Mat := headMat (V0 (Proc.devRef .tc main_arg2)) h

theorem v2_apply (r : Fin 2048) (d : Fin 128) : res_main_v2 V0 (ix3 h r d) = V V0 h r d := by
  unfold res_main_v2; clean_types; pointwise; rfl

theorem v39_apply (r : Fin 2048) (d : Fin 128) : res_main_v39 V0 (ix3 h r d) = iso (V V0 h) r d := by
  unfold res_main_v39 res_main_v38; clean_types; pointwise [id_eq]
  rw [sink_bit, select_ofBool, v2_apply]
  rfl

theorem v40_apply (r : Fin 2048) (d : Fin 128) : res_main_v40 V0 (ix3 h r d) = mag (V V0 h) r d := by
  rw [res_main_v40, absf_apply, v39_apply]
  rfl

theorem v55_eq : res_main_v55 V0 = scaleOf (rowMax (Host.absf (res_main_v48 V0))) := by
  rw [res_main_v55, scaleOf, rowMax]

/-- The reference's outlier marks, as a search among the positions `top_k` returns. -/
theorem v47_read (r : Fin 2048) (d : Fin 128) : res_main_v47 V0 (ix3 h r d)
    = Finset.fold IntOp.ori (0#1) (fun x => IntOp.cmpi .eq
        ((Host.topK S16x2048x1 2 (FloatOps.cmpfTotal .gt) (res_main_v40 V0) sliceFits_S16x2048x128_S16x2048x1).2
          (ix3 h r x)) (BitVec.ofNat 32 d.val)) Finset.univ := by
  unfold res_main_v47; clean_types; pointwise
  exact Finset.fold_congr fun x _ => by rw [Subsingleton.elim x 0]

/-- The reference's quantised values. -/
def recon : FVec Ideal S16x2048x128 .f32 :=
  select (broadcastInDim S16x2048x128 ![0, 1, 2] bcast_S1x2048x1_S16x2048x128_0_1_2 (res_main_v38 V0)) (res_main_v2 V0) (select (res_main_v47 V0) (res_main_v39 V0) (mulf (minimumf (broadcastInDim S16x2048x128 ![] bcast_S_S16x2048x128 (sitofp .f32 (constantI S_ 32 7#32))) (maximumf (broadcastInDim S16x2048x128 ![] bcast_S_S16x2048x128 (sitofp .f32 (constantI S_ 32 4294967288#32))) (Host.roundeven (Host.divf (res_main_v48 V0) (broadcastInDim S16x2048x128 ![0, 1, 2] bcast_S16x2048x1_S16x2048x128_0_1_2 (res_main_v55 V0)))))) (broadcastInDim S16x2048x128 ![0, 1, 2] bcast_S16x2048x1_S16x2048x128_0_1_2 (res_main_v55 V0))))

variable {V0 h} {r : Fin 2048} (hs : Drops (fun d => mag (V V0 h) r d) 1 (Nat.le_of_ble_eq_true rfl))
include hs

/-- The reference's outlier is the entry above the threshold. -/
theorem v47_apply (d : Fin 128) : res_main_v47 V0 (ix3 h r d)
    = BitVec.ofBool (decide (valThr (V V0 h) r d < mag (V V0 h) r d)) := by
  refine (v47_read V0 h r d).trans (bit_eq ?_)
  rw [valThr_eq]
  exact (Order.topK_marks (res_main_v40 V0) (Nat.le_of_ble_eq_true rfl) (Nat.le_of_ble_eq_true rfl)
    sliceFits_S16x2048x128_S16x2048x1 h r d (fun d => v40_apply V0 h r d)).trans
    (first_drops (fun d => mag_nonneg _ r d) hs d)

/-- What remains once the outlier is set to zero. -/
theorem v48_apply (d : Fin 128) : res_main_v48 V0 (ix3 h r d)
    = if valThr (V V0 h) r d < mag (V V0 h) r d then 0 else iso (V V0 h) r d := by
  unfold res_main_v48; clean_types; pointwise [id_eq]
  rw [v47_apply hs, select_ofBool, v39_apply]

/-- The reference's scale is the kernel's. -/
theorem v55_apply (d : Fin 128) : res_main_v55 V0 (ix3 h r 0) = step (valThr (V V0 h) r d) := by
  have hb : ∀ x, (Host.absf (res_main_v48 V0) (ix3 h r x) : EReal)
      = if valThr (V V0 h) r d < mag (V V0 h) r x then 0 else mag (V V0 h) r x := fun x => by
    rw [absf_apply, v48_apply hs x, valThr_col (V V0 h) r x d]
    exact rest_mag (V V0 h) _ r x
  have e : (Ranking.top fun x => (Host.absf (res_main_v48 V0) (ix3 h r x) : EReal)) = valThr (V V0 h) r d :=
    rest_thr (fun d => mag_nonneg _ r d) hs (valThr_eq (V V0 h) r d) hb
  rw [v55_eq, scaleOf_apply, rowMax_apply, Consts.ofBits_seven, e, step, tiny]

omit hs

theorem recon_read (r : Fin 2048) (d : Fin 128) : recon V0 (ix3 h r d)
    = Scalar.select (IntOp.cmpi .slt (BitVec.ofNat 32 r.val) 4#32) (res_main_v2 V0 (ix3 h r d))
      (Scalar.select (res_main_v47 V0 (ix3 h r d)) (res_main_v39 V0 (ix3 h r d))
        (min (FloatOps.sitofp (F := Ideal) FTy.f32 7#32 : EReal)
            (max (FloatOps.sitofp (F := Ideal) FTy.f32 4294967288#32 : EReal)
              (Ideal.liftRound Ideal.roundHalfEven
                (Ideal.div (res_main_v48 V0 (ix3 h r d)) (res_main_v55 V0 (ix3 h r 0))))) *
          res_main_v55 V0 (ix3 h r 0))) := by
  unfold recon res_main_v38; pointwise

/-- The reference's quantised values are the kernel's, where the tokens past the sinks have a single largest entry. -/
theorem recon_apply (r : Fin 2048) (hs : 4 ≤ r.val → Drops (fun d => mag (V V0 h) r d) 1 (Nat.le_of_ble_eq_true rfl))
    (d : Fin 128) : recon V0 (ix3 h r d) = valCache (V V0 h) r d := by
  rw [recon_read, sink_bit, select_ofBool, v2_apply]
  unfold valCache
  split
  · rfl
  · have hd := hs (by omega)
    rw [v47_apply hd, select_ofBool, v39_apply, v48_apply hd, v55_apply hd d, sitofp_seven, sitofp_neg_eight]
    have hi : mag (V V0 h) r d = Ranking.top (fun d => mag (V V0 h) r d) ↔ valThr (V V0 h) r d < mag (V V0 h) r d := by
      rw [valThr_eq]
      exact top_drops (f := fun d => mag (V V0 h) r d) (fun d => mag_nonneg _ r d) hd d
    by_cases hk : valThr (V V0 h) r d < mag (V V0 h) r d
    · rw [if_pos hk, if_pos (hi.mpr hk)]
    · rw [if_neg hk, if_neg hk, if_neg (fun q => hk (hi.mp q))]
      rfl

end Cert.RefValues

end
-- ==== Proof.Softmax.lean ====
/- The mathematics of a masked softmax: subtracting the row's maximum before the exponential changes nothing, and the
   masked entries, being minus infinity, weigh zero. -/
module

public import proofs.«01_k».proof.Proof.Model

@[expose] public section

open Idealize.ShloMosaic

noncomputable section

namespace Cert.Softmax

open Cert.Model

variable {N : ℕ} {L : Fin N → ℝ} {r : Fin N} {S : Fin N → EReal}

/-- The maximum of the scores of a row is a real number: the row's own column is not masked. -/
theorem top_real (hS : ∀ c, S c = if c ≤ r then ((L c : ℝ) : EReal) else ⊥) : IsReal (Ranking.top S) := by
  have hlt : Ranking.top S < ⊤ := by
    refine (Finset.sup_lt_iff bot_lt_top).mpr fun c _ => ?_
    rw [hS]
    split
    · exact EReal.coe_lt_top _
    · exact bot_lt_top
  have hgt : ⊥ < Ranking.top S := by
    refine lt_of_lt_of_le ?_ (Finset.le_sup (f := S) (Finset.mem_univ r))
    rw [hS, if_pos le_rfl]
    exact EReal.bot_lt_coe _
  exact ⟨_, (EReal.coe_toReal hlt.ne hgt.ne').symm⟩

/-- The weight of a score. -/
theorem weight_eq (hS : ∀ c, S c = if c ≤ r then ((L c : ℝ) : EReal) else ⊥) (m : ℝ) (c : Fin N) :
    Ideal.exp (S c - (m : EReal)) = ((if c ≤ r then Real.exp (L c) * Real.exp (-m) else 0 : ℝ) : EReal) := by
  rw [hS]
  split
  · rw [← EReal.coe_sub, Ideal.exp_coe, sub_eq_add_neg, Real.exp_add]
  · rw [EReal.bot_sub, Ideal.exp_bot, EReal.coe_zero]

/-- The normalised weights do not depend on what was subtracted. -/
theorem normal_eq (L : Fin N → ℝ) (r : Fin N) (m : ℝ) (c : Fin N) :
    (if c ≤ r then Real.exp (L c) * Real.exp (-m) else 0)
        * (1 / ∑ c, if c ≤ r then Real.exp (L c) * Real.exp (-m) else 0)
      = (if c ≤ r then Real.exp (L c) else 0) * (1 / ∑ c, if c ≤ r then Real.exp (L c) else 0) := by
  have hz : (∑ c : Fin N, if c ≤ r then Real.exp (L c) * Real.exp (-m) else 0)
      = (∑ c, if c ≤ r then Real.exp (L c) else 0) * Real.exp (-m) := by
    rw [Finset.sum_mul]
    exact Finset.sum_congr rfl fun c _ => by split <;> simp
  rw [hz]
  split
  · have := (Real.exp_pos (-m)).ne'
    field_simp
  · simp

theorem total_pos (L : Fin N → ℝ) (r : Fin N) (m : ℝ) :
    0 < ∑ c : Fin N, if c ≤ r then Real.exp (L c) * Real.exp (-m) else 0 := by
  refine Finset.sum_pos' (fun c _ => ?_) ⟨r, Finset.mem_univ r, ?_⟩
  · split
    · positivity
    · exact le_rfl
  · rw [if_pos le_rfl]; positivity

/-- The masked softmax applied to the values. -/
theorem softmax_eq (hS : ∀ c, S c = if c ≤ r then ((L c : ℝ) : EReal) else ⊥) {w : Fin N → EReal} (V : Fin N → EReal)
    (hw : ∀ c, w c = Ideal.exp (S c - max ⊥ (Ranking.top S))) :
    (∑ c, Ideal.div (w c) (∑ c, w c) * V c)
      = (∑ c, if c ≤ r then ((Real.exp (L c) : ℝ) : EReal) * V c else 0)
        * ((1 / ∑ c, (if c ≤ r then Real.exp (L c) else 0) : ℝ) : EReal) := by
  obtain ⟨m, hm⟩ := top_real hS
  have hw' : ∀ c, w c = ((if c ≤ r then Real.exp (L c) * Real.exp (-m) else 0 : ℝ) : EReal) := fun c => by
    rw [hw, hm, max_eq_right bot_le, weight_eq hS]
  have hz : (∑ c, w c : EReal) = ((∑ c : Fin N, if c ≤ r then Real.exp (L c) * Real.exp (-m) else 0 : ℝ) : EReal) :=
    (Finset.sum_congr rfl fun c _ => hw' c).trans (sum_coe Finset.univ _)
  have h0 : (0 : ℝ) ≤ 1 / ∑ c, if c ≤ r then Real.exp (L c) else 0 :=
    div_nonneg zero_le_one (Finset.sum_nonneg fun c _ => by split <;> positivity)
  rw [hz, sum_mul_coe Finset.univ _ h0]
  refine Finset.sum_congr rfl fun c _ => ?_
  rw [hw', Ideal.div_coe (total_pos L r m).ne', ← EReal.coe_mul, normal_eq]
  split
  · rw [EReal.coe_mul, mul_assoc, mul_assoc, mul_comm (V c)]
  · rw [zero_mul, EReal.coe_zero, zero_mul, zero_mul]

end Cert.Softmax

end
-- ==== Proof.RefAttend.lean ====
/- The reference's attention: the masked scores, the softmax with the row's maximum subtracted, and the product with
   the values, are the causal attention over the reals. -/
module

public import proofs.«01_k».proof.Proof.RefRope
public import proofs.«01_k».proof.Proof.RefValues
public import proofs.«01_k».proof.Proof.Softmax
public import proofs.«01_k».proof.Proof.Words
public import proofs.«01_k».proof.Proof.Consts
public import proofs.«01_k».proof.Proof.Gen.ReferenceIdeal.Run
public import Idealize.ShloMosaic.Lib.Tactic.CleanTypes
public import Idealize.ShloMosaic.Lib.Routing.OpsOrder

@[expose] public section

set_option maxRecDepth 16384

open Idealize.ShloMosaic Idealize.ShloMosaic.TcCoe Idealize.ShloMosaic.Pointwise
open Cert.ReferenceIdeal Cert.ReferenceIdeal.Gen Cert.ReferenceIdeal.Value Cert.Model Cert.Words

noncomputable section

namespace Cert.RefAttend

/-- The masked scores. -/
def masked (Q K : FVec Ideal S16x2048x128 .f32) : FVec Ideal S16x2048x2048 .f32 :=
  select (broadcastInDim S16x2048x2048 ![0, 1, 2] bcast_S1x2048x2048_S16x2048x2048_0_1_2 (broadcastInDim S1x2048x2048 ![1, 2] bcast_S2048x2048_S1x2048x2048_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (Host.divf (Host.dotGeneral dot_S16x2048x128_S16x2048x128_S16x2048x2048_2_2_1_1_0_0 none Q K) (broadcastInDim S16x2048x2048 ![] bcast_S_S16x2048x2048 (Host.sqrt (constant S_ .f32 0x43000000#32)))) (broadcastInDim S16x2048x2048 ![] bcast_S_S16x2048x2048 (id (constant S_ .f32 0xFF800000#32)))

/-- The largest score of each row. -/
def rowTop (M : FVec Ideal S16x2048x2048 .f32) : FVec Ideal S16x2048 .f32 :=
  Host.reduce FloatOps.maximumf M (constant S_ .f32 0xFF800000#32) reducesTo_S16x2048x2048_S16x2048_d2 h_S_

/-- The exponentials of the scores less the row's largest. -/
def weights (M : FVec Ideal S16x2048x2048 .f32) (m : FVec Ideal S16x2048 .f32) : FVec Ideal S16x2048x2048 .f32 :=
  Host.exp (subf M (broadcastInDim S16x2048x2048 ![0, 1, 2] bcast_S16x2048x1_S16x2048x2048_0_1_2 (broadcastInDim S16x2048x1 ![0, 1] bcast_S16x2048_S16x2048x1_0_1 (maximumf (broadcastInDim S16x2048 ![] bcast_S_S16x2048 (constant S_ .f32 0xFF800000#32)) m))))

/-- The sum of each row's weights. -/
def rowSum (W : FVec Ideal S16x2048x2048 .f32) : FVec Ideal S16x2048 .f32 :=
  Host.reduceAdd W (constant S_ .f32 0x00000000#32) reducesTo_S16x2048x2048_S16x2048_d2 h_S_

/-- The weighted average of the values. -/
def average (W : FVec Ideal S16x2048x2048 .f32) (z : FVec Ideal S16x2048 .f32) (V : FVec Ideal S16x2048x128 .f32) :
    FVec Ideal S16x2048x128 .f32 :=
  Host.dotGeneral dot_S16x2048x2048_S16x2048x128_S16x2048x128_2_1_1_2_0_0 none (Host.divf W (broadcastInDim S16x2048x2048 ![0, 1, 2] bcast_S16x2048x1_S16x2048x2048_0_1_2 (broadcastInDim S16x2048x1 ![0, 1] bcast_S16x2048_S16x2048x1_0_1 z))) V

theorem sqrt_eq : Ideal.sqrt (Ideal.ofBits FTy.f32 0x43000000#32) = ((Real.sqrt 128 : ℝ) : EReal) := by
  rw [Consts.ofBits_128, Ideal.sqrt_coe, if_neg (by norm_num)]

theorem masked_apply {Q K : FVec Ideal S16x2048x128 .f32} {h : Fin 16} {q k : Fin 2048 → Fin 128 → ℝ}
    (hQ : ∀ r d, Q (ix3 h r d) = ((q r d : ℝ) : EReal)) (hK : ∀ r d, K (ix3 h r d) = ((k r d : ℝ) : EReal))
    (r c : Fin 2048) :
    masked Q K (ix3 h r c) = (if c ≤ r then ((logit q k r c : ℝ) : EReal) else ⊥ : EReal) := by
  pointwise [masked, id_eq]
  rw [sge_small (by omega) (by omega), select_ofBool, sqrt_eq, Ideal.div_coe (by positivity)]
  simp only [hQ, hK, ← EReal.coe_mul, sum_coe, Fin.le_def]
  rw [Consts.ofBits_neg_inf, logit, one_div]

theorem rowTop_apply (M : FVec Ideal S16x2048x2048 .f32) (h : Fin 16) (r : Fin 2048) :
    rowTop M (ix2 h r) = Ranking.top fun c => M (ix3 h r c) := by
  pointwise [rowTop]
  rw [Consts.ofBits_neg_inf]
  rfl

theorem weights_apply (M : FVec Ideal S16x2048x2048 .f32) (m : FVec Ideal S16x2048 .f32) (h : Fin 16) (r c : Fin 2048) :
    weights M m (ix3 h r c) = Ideal.exp (M (ix3 h r c) - max ⊥ (m (ix2 h r))) := by
  pointwise [weights]
  rw [Consts.ofBits_neg_inf]

theorem rowSum_apply (W : FVec Ideal S16x2048x2048 .f32) (h : Fin 16) (r : Fin 2048) :
    rowSum W (ix2 h r) = (∑ c, W (ix3 h r c) : EReal) := by
  pointwise [rowSum]

theorem average_apply (W : FVec Ideal S16x2048x2048 .f32) (z : FVec Ideal S16x2048 .f32)
    (V : FVec Ideal S16x2048x128 .f32) (h : Fin 16) (r : Fin 2048) (d : Fin 128) :
    average W z V (ix3 h r d) = (∑ c, Ideal.div (W (ix3 h r c)) (z (ix2 h r)) * V (ix3 h c d) : EReal) := by
  pointwise [average]

variable (V0 : Valuation τ sig (Elt Ideal))

theorem v137_eq : res_main_v137 V0
    = masked (RefRope.rot (res_main_v0 V0) (res_main_v77 V0)) (RefRope.rot (res_main_v34 V0) (res_main_v108 V0)) := by
  rw [res_main_v137, masked, RefRope.rot, RefRope.rot, res_main_v130]

theorem v144_eq : res_main_v144 V0 = weights (res_main_v137 V0) (rowTop (res_main_v137 V0)) := by
  rw [res_main_v144, weights, rowTop]

theorem v149_eq : Host.dotGeneral dot_S16x2048x2048_S16x2048x128_S16x2048x128_2_1_1_2_0_0 none (Host.divf (res_main_v144 V0) (broadcastInDim S16x2048x2048 ![0, 1, 2] bcast_S16x2048x1_S16x2048x2048_0_1_2 (broadcastInDim S16x2048x1 ![0, 1] bcast_S16x2048_S16x2048x1_0_1 (Host.reduceAdd (res_main_v144 V0) (constant S_ .f32 0x00000000#32) reducesTo_S16x2048x2048_S16x2048_d2 h_S_)))) (select (broadcastInDim S16x2048x128 ![0, 1, 2] bcast_S1x2048x1_S16x2048x128_0_1_2 (res_main_v38 V0)) (res_main_v2 V0) (select (res_main_v47 V0) (res_main_v39 V0) (mulf (minimumf (broadcastInDim S16x2048x128 ![] bcast_S_S16x2048x128 (sitofp .f32 (constantI S_ 32 7#32))) (maximumf (broadcastInDim S16x2048x128 ![] bcast_S_S16x2048x128 (sitofp .f32 (constantI S_ 32 4294967288#32))) (Host.roundeven (Host.divf (res_main_v48 V0) (broadcastInDim S16x2048x128 ![0, 1, 2] bcast_S16x2048x1_S16x2048x128_0_1_2 (res_main_v55 V0)))))) (broadcastInDim S16x2048x128 ![0, 1, 2] bcast_S16x2048x1_S16x2048x128_0_1_2 (res_main_v55 V0)))))
    = average (res_main_v144 V0) (rowSum (res_main_v144 V0)) (RefValues.recon V0) := by
  rw [average, rowSum, RefValues.recon]

/-- The queries of head `h`. -/
def Q (h : Fin 16) : Mat := headMat (V0 (Proc.devRef .tc main_arg0)) h

theorem v0_apply (h : Fin 16) (r : Fin 2048) (d : Fin 128) : res_main_v0 V0 (ix3 h r d) = Q V0 h r d := by
  unfold res_main_v0; clean_types; pointwise; rfl

variable {V0} {h : Fin 16}

/-- The reference's result, where the queries and keys are real. -/
theorem result_eq (hp : RefRope.Positions V0)
    (hks : ∀ d : Fin 128, Drops (fun r => mag (RefKeys.K V0 h) r d) 20 (Nat.le_of_ble_eq_true rfl))
    (hvs : ∀ r : Fin 2048, 4 ≤ r.val → Drops (fun d => mag (RefValues.V V0 h) r d) 1 (Nat.le_of_ble_eq_true rfl))
    {q k : Fin 2048 → Fin 128 → ℝ} (hq : ∀ r d, rope (Q V0 h) r d = ((q r d : ℝ) : EReal))
    (hk : ∀ r d, rope (cache (keyThr (RefKeys.K V0 h)) (RefKeys.K V0 h)) r d = ((k r d : ℝ) : EReal))
    (r : Fin 2048) (d : Fin 128) :
    average (res_main_v144 V0) (rowSum (res_main_v144 V0)) (RefValues.recon V0) (ix3 h r d)
      = attend q k (valCache (RefValues.V V0 h)) r d := by
  have hQ : ∀ r d, RefRope.rot (res_main_v0 V0) (res_main_v77 V0) (ix3 h r d) = ((q r d : ℝ) : EReal) := fun r d => by
    rw [RefRope.rot_apply _ _ h (RefRope.v77_apply hp), ← hq r d]
    exact congrArg (fun X : Mat => rope X r d) (funext fun r => funext fun d => v0_apply V0 h r d)
  have hK : ∀ r d, RefRope.rot (res_main_v34 V0) (res_main_v108 V0) (ix3 h r d) = ((k r d : ℝ) : EReal) := fun r d => by
    rw [RefRope.rot_apply _ _ h (RefRope.v108_apply hp), ← hk r d]
    exact congrArg (fun X : Mat => rope X r d) (funext fun r => funext fun d => RefKeys.v34_apply hks r d)
  obtain ⟨S, hE⟩ : ∃ S : Fin 2048 → EReal, ∀ c, res_main_v137 V0 (ix3 h r c) = S c := ⟨_, fun _ => rfl⟩
  have hS : ∀ c, S c = if c ≤ r then ((logit q k r c : ℝ) : EReal) else ⊥ :=
    fun c => by rw [← hE c, v137_eq]; exact masked_apply hQ hK r c
  have hw : ∀ c, res_main_v144 V0 (ix3 h r c) = Ideal.exp (S c - max ⊥ (Ranking.top S)) := fun c => by
    rw [v144_eq, weights_apply, rowTop_apply, hE c, show (fun c => res_main_v137 V0 (ix3 h r c)) = S from funext hE]
  rw [average_apply, rowSum_apply, Softmax.softmax_eq (L := logit q k r) hS (fun c => RefValues.recon V0 (ix3 h c d)) hw, attend]
  refine congrArg (· * _) (Finset.sum_congr rfl fun c _ => ?_)
  rw [RefValues.recon_apply c (hvs c) d]

end Cert.RefAttend

end
-- ==== Proof.Precondition.lean ====
/- What the precondition says: the queries and keys are real, the positions are the tokens' indices, and the rankings that
   choose the outliers drop strictly where the choice is made. -/
module

public import proofs.«01_k».proof.Proof.Heads
public import proofs.«01_k».proof.Proof.Words
public import proofs.«01_k».proof.Proof.Consts
public import proofs.«01_k».proof.Pre_separated
public import Idealize.ShloMosaic.Lib.ReduceAll
public import Idealize.ShloMosaic.Lib.Pointwise

@[expose] public section

set_option maxRecDepth 16384

open Idealize.ShloMosaic Idealize.ShloMosaic.Pointwise
open Cert.Model Cert.Words Cert.Pre_separated

noncomputable section

namespace Cert.Precondition

variable [Facts]

instance : Subsingleton S_.Idx := ⟨fun a b => funext fun x => x.elim0⟩

theorem and_one {x y : IVec S_ 1} {i : S_.Idx} (h : andi x y i = 1#1) : x i = 1#1 ∧ y i = 1#1 := by
  have key : ∀ a b : BitVec 1, a &&& b = 1#1 → a = 1#1 ∧ b = 1#1 := by decide
  exact key _ _ h

/-- A magnitude below plus infinity is a real number's. -/
theorem isReal_of_lt {x : EReal} (h : max x (-x) < ⊤) : IsReal x := by
  induction x using EReal.rec with
  | bot => simp at h
  | top => simp at h
  | coe r => exact IsReal.coe r

/-- The bits "this magnitude is below plus infinity". -/
def finite (x : FVec Ideal S1x16x2048x128 .f32) : IVec S1x16x2048x128 1 :=
  cmpf .olt (Host.absf x) (broadcastInDim S1x16x2048x128 ![] Facts.bcast_S_S1x16x2048x128 (constant S_ .f32 0x7F800000#32))

theorem finite_real {x : FVec Ideal S1x16x2048x128 .f32} (i : S1x16x2048x128.Idx) (h : finite x i = 1#1) : IsReal (x i) := by
  have h' : BitVec.ofBool (decide (max (x i : EReal) (-(x i)) < Ideal.ofBits .f32 0x7F800000#32)) = 1#1 := h
  rw [Consts.ofBits_inf] at h'
  exact isReal_of_lt (bit_iff.mp h')

/-- The bits "this position is the token's index". -/
def indexed (p : IVec S1x2048 32) : IVec S2048 1 :=
  cmpi .eq (shapeCast S2048 p Facts.shapeCasts_S1x2048_S2048) (iotaInDim S2048 32 0)

theorem indexed_eq {p : IVec S1x2048 32} (r : Fin 2048) (h : indexed p (ix1 r) = 1#1) : p (ix2 0 r) = BitVec.ofNat 32 r.val := by
  have e : indexed p (ix1 r) = IntOp.cmpi .eq (p (ix2 0 r)) (BitVec.ofNat 32 r.val) := by pointwise [indexed]
  rw [e] at h
  have h' : BitVec.ofBool (p (ix2 0 r) == BitVec.ofNat 32 r.val) = 1#1 := h
  by_contra hne
  rw [beq_eq_false_iff_ne.mpr hne] at h'
  exact absurd h' (by decide)

/-- The sinks' test. -/
def sinks : IVec S1x2048x1 1 :=
  cmpi .slt (broadcastInDim S1x2048x1 ![1] Facts.bcast_S2048_S1x2048x1_1 (iotaInDim S2048 32 0))
    (broadcastInDim S1x2048x1 ![] Facts.bcast_S_S1x2048x1 (constantI S_ 32 4#32))

/-- The keys' magnitudes past the sinks, channel by channel. -/
def keyMags (k : FVec Ideal S1x16x2048x128 .f32) : FVec Ideal S16x128x2048 .f32 :=
  transpose S16x128x2048 [0, 2, 1] (Host.absf (fn_where (F := Ideal) sinks (constant S_ .f32 0x00000000#32)
    (shapeCast S16x2048x128 k Facts.shapeCasts_S1x16x2048x128_S16x2048x128))) Facts.transposes_S16x2048x128_S16x128x2048_0_2_1

theorem keyMags_apply (k : FVec Ideal S1x16x2048x128 .f32) (h : Fin 16) (r : Fin 2048) (d : Fin 128) :
    keyMags k (ix3 h d r) = mag (headMat k h) r d := by
  have e : fn_where (F := Ideal) sinks (constant S_ .f32 0x00000000#32)
      (shapeCast S16x2048x128 k Facts.shapeCasts_S1x16x2048x128_S16x2048x128) (ix3 h r d) = iso (headMat k h) r d := by
    unfold fn_where sinks
    pointwise [id_eq]
    rw [sink_bit, select_ofBool]
    rfl
  have e' : keyMags k (ix3 h d r) = Host.absf (fn_where (F := Ideal) sinks (constant S_ .f32 0x00000000#32)
      (shapeCast S16x2048x128 k Facts.shapeCasts_S1x16x2048x128_S16x2048x128)) (ix3 h r d) := by
    unfold keyMags
    generalize fn_where (F := Ideal) sinks (constant S_ .f32 0x00000000#32)
      (shapeCast S16x2048x128 k Facts.shapeCasts_S1x16x2048x128_S16x2048x128) = y
    pointwise
  rw [e']
  exact congrArg (fun x : EReal => max x (-x)) e

/-- The bits "the ranking drops here", for the 21 largest of each channel. -/
def keyDrops (T : FVec Ideal S16x128x21 .f32) : IVec S16x128x20 1 :=
  cmpf .ogt (extractStridedSlice S16x128x20 ![0, 0, 0] T Facts.slices_S16x128x21_S16x128x20_0_0_0)
    (extractStridedSlice S16x128x20 ![0, 0, 1] T Facts.slices_S16x128x21_S16x128x20_0_0_1)

theorem keyDrops_lt {T : FVec Ideal S16x128x21 .f32} (h : Fin 16) (d : Fin 128) (j : Fin 20)
    (e : keyDrops T (ix3 h d j) = 1#1) :
    (T (ix3 h d ⟨j.val + 1, by omega⟩) : EReal) < T (ix3 h d ⟨j.val, by omega⟩) := by
  have e0 : extractStridedSlice S16x128x20 ![0, 0, 0] T Facts.slices_S16x128x21_S16x128x20_0_0_0 (ix3 h d j)
      = T (ix3 h d ⟨j.val, by omega⟩) := by
    pointwise
  have e1 : extractStridedSlice S16x128x20 ![0, 0, 1] T Facts.slices_S16x128x21_S16x128x20_0_0_1 (ix3 h d j)
      = T (ix3 h d ⟨j.val + 1, by omega⟩) := by
    pointwise
    exact congrArg (fun c => T (ix3 h d c)) (Fin.ext (Nat.add_comm 1 j.val))
  have h' : BitVec.ofBool (decide (
      (extractStridedSlice S16x128x20 ![0, 0, 1] T Facts.slices_S16x128x21_S16x128x20_0_0_1 (ix3 h d j) : EReal)
      < extractStridedSlice S16x128x20 ![0, 0, 0] T Facts.slices_S16x128x21_S16x128x20_0_0_0 (ix3 h d j))) = 1#1 := e
  rw [e0, e1] at h'
  exact bit_iff.mp h'

/-- The bits "the token has a single largest magnitude, or is a sink". -/
def valueDrops (T : FVec Ideal S16x2048x2 .f32) : IVec S16x2048 1 :=
  ori (cmpf .ogt
      (shapeCast S16x2048 (extractStridedSlice S16x2048x1 ![0, 0, 0] T Facts.slices_S16x2048x2_S16x2048x1_0_0_0) Facts.shapeCasts_S16x2048x1_S16x2048)
      (shapeCast S16x2048 (extractStridedSlice S16x2048x1 ![0, 0, 1] T Facts.slices_S16x2048x2_S16x2048x1_0_0_1) Facts.shapeCasts_S16x2048x1_S16x2048))
    (broadcastInDim S16x2048 ![0, 1] Facts.bcast_S1x2048_S16x2048_0_1
      (cmpi .slt (broadcastInDim S1x2048 ![1] Facts.bcast_S2048_S1x2048_1 (iotaInDim S2048 32 0))
        (broadcastInDim S1x2048 ![] Facts.bcast_S_S1x2048 (constantI S_ 32 4#32))))

theorem valueDrops_lt {T : FVec Ideal S16x2048x2 .f32} (h : Fin 16) (r : Fin 2048) (hr : 4 ≤ r.val)
    (e : valueDrops T (ix2 h r) = 1#1) : (T (ix3 h r 1) : EReal) < T (ix3 h r 0) := by
  have e' : valueDrops T (ix2 h r) = BitVec.ofBool (decide ((T (ix3 h r 1) : EReal) < T (ix3 h r 0)))
      ||| IntOp.cmpi .slt (BitVec.ofNat 32 r.val) 4#32 := by
    pointwise [valueDrops]
    rfl
  rw [e', sink_bit, decide_eq_false (by omega : ¬ r.val < 4)] at e
  have : ∀ b : BitVec 1, b ||| BitVec.ofBool false = b := by decide
  rw [this] at e
  exact bit_iff.mp e

/-- The largest entries of a row along the last axis are the row's ranking. -/
theorem topK_ranking {A B N n : ℕ} (x : Vec Ideal ⟨3, ![A, B, N]⟩ .f32) (hn : n ≤ N)
    (hs : (⟨3, ![A, B, N]⟩ : Shape).Slices (fun _ => 0) ⟨3, ![A, B, n]⟩) (a : Fin A) (b : Fin B) (j : Fin n)
    {f : Fin N → EReal} (e : ∀ r, x (ix3 a b r) = f r) :
    (Host.topK ⟨3, ![A, B, n]⟩ 2 (FloatOps.cmpfTotal (F := Ideal) (φ := .f32) .gt) x hs).1 (ix3 a b j)
      = f (Order.order f ⟨j.val, lt_of_lt_of_le j.isLt hn⟩) := by
  have e' : (fun r => x (ix3 a b r)) = f := funext e
  rw [Order.topK_value x hn hs a b j]
  exact (e _).trans (congrArg (fun g : Fin N → EReal => f (Order.order g ⟨j.val, lt_of_lt_of_le j.isLt hn⟩)) e')

/-- The 21 largest magnitudes of each channel of the keys. -/
def keyTop (k : FVec Ideal S1x16x2048x128 .f32) : FVec Ideal S16x128x21 .f32 :=
  (Host.topK S16x128x21 2 (FloatOps.cmpfTotal (F := Ideal) (φ := .f32) .gt) (keyMags k) Facts.sliceFits_S16x128x2048_S16x128x21).1

/-- The magnitudes of the values. -/
def valueMags (v : FVec Ideal S1x16x2048x128 .f32) : FVec Ideal S16x2048x128 .f32 :=
  Host.absf (shapeCast S16x2048x128 v Facts.shapeCasts_S1x16x2048x128_S16x2048x128)

theorem valueMags_apply (v : FVec Ideal S1x16x2048x128 .f32) (h : Fin 16) (r : Fin 2048) (hr : 4 ≤ r.val) (d : Fin 128) :
    valueMags v (ix3 h r d) = mag (headMat v h) r d := by
  have e : shapeCast S16x2048x128 v Facts.shapeCasts_S1x16x2048x128_S16x2048x128 (ix3 h r d) = headMat v h r d := by
    pointwise; rfl
  have e' : iso (headMat v h) r d = headMat v h r d := by
    unfold iso; rw [if_neg (by omega)]
  rw [mag, e']
  exact congrArg (fun x : EReal => max x (-x)) e

/-- The two largest magnitudes of each token of the values. -/
def valueTop (v : FVec Ideal S1x16x2048x128 .f32) : FVec Ideal S16x2048x2 .f32 :=
  (Host.topK S16x2048x2 2 (FloatOps.cmpfTotal (F := Ideal) (φ := .f32) .gt) (valueMags v) Facts.sliceFits_S16x2048x128_S16x2048x2).1

/-- The precondition as the conjunction of its five tests. -/
theorem fn_eq (q k v : FVec Ideal S1x16x2048x128 .f32) (p : IVec S1x2048 32) : fn (F := Ideal) q k v p
    = andi (andi (andi (andi
        (Host.reduce IntOp.andi (finite q) (constantI S_ 1 1#1) Facts.reducesTo_S1x16x2048x128_S_d0_1_2_3 Facts.h_S_)
        (Host.reduce IntOp.andi (finite k) (constantI S_ 1 1#1) Facts.reducesTo_S1x16x2048x128_S_d0_1_2_3 Facts.h_S_))
        (Host.reduce IntOp.andi (indexed p) (constantI S_ 1 1#1) Facts.reducesTo_S2048_S_d0 Facts.h_S_))
        (Host.reduce IntOp.andi (keyDrops (keyTop k)) (constantI S_ 1 1#1) Facts.reducesTo_S16x128x20_S_d0_1_2 Facts.h_S_))
        (Host.reduce IntOp.andi (valueDrops (valueTop v)) (constantI S_ 1 1#1) Facts.reducesTo_S16x2048_S_d0_1 Facts.h_S_) := by
  rw [fn, fn_part1, fn_part2, finite, finite, indexed, keyDrops, keyTop, keyMags, valueDrops, valueTop, valueMags, sinks]

/-- What the precondition grants. -/
structure Grants (q k v : FVec Ideal S1x16x2048x128 .f32) (p : IVec S1x2048 32) : Prop where
  realQ : ∀ i, IsReal (q i)
  realK : ∀ i, IsReal (k i)
  positions : ∀ r : Fin 2048, p (ix2 0 r) = BitVec.ofNat 32 r.val
  keys : ∀ (h : Fin 16) (d : Fin 128), Drops (fun r => mag (headMat k h) r d) 20 (Nat.le_of_ble_eq_true rfl)
  values : ∀ (h : Fin 16) (r : Fin 2048), 4 ≤ r.val → Drops (fun d => mag (headMat v h) r d) 1 (Nat.le_of_ble_eq_true rfl)

theorem grants {q k v : FVec Ideal S1x16x2048x128 .f32} {p : IVec S1x2048 32} (e : fn (F := Ideal) q k v p = fun _ => 1#1) :
    Grants q k v p := by
  have e0 := congrFun ((fn_eq q k v p).symm.trans e) ix0
  obtain ⟨e0, hv⟩ := and_one e0
  obtain ⟨e0, hk⟩ := and_one e0
  obtain ⟨e0, hp⟩ := and_one e0
  obtain ⟨h1, h2⟩ := and_one e0
  refine ⟨fun i => finite_real i (Host.reduce_andi_all _ _ _ _ _ h1 i), fun i => finite_real i (Host.reduce_andi_all _ _ _ _ _ h2 i),
    fun r => indexed_eq r (Host.reduce_andi_all _ _ _ _ _ hp _),
    fun h d j hj => ?_, fun h r hr j hj => ?_⟩
  · have l := keyDrops_lt h d ⟨j, hj⟩ (Host.reduce_andi_all _ _ _ _ _ hk _)
    rw [keyTop, topK_ranking (keyMags k) (Nat.le_of_ble_eq_true rfl) _ h d _ (fun r => keyMags_apply k h r d),
      topK_ranking (keyMags k) (Nat.le_of_ble_eq_true rfl) _ h d _ (fun r => keyMags_apply k h r d)] at l
    exact l
  · have l := valueDrops_lt h r hr (Host.reduce_andi_all _ _ _ _ _ hv _)
    rw [valueTop, topK_ranking (valueMags v) (Nat.le_of_ble_eq_true rfl) _ h r _ (fun d => valueMags_apply v h r hr d),
      topK_ranking (valueMags v) (Nat.le_of_ble_eq_true rfl) _ h r _ (fun d => valueMags_apply v h r hr d)] at l
    obtain rfl : j = 0 := by omega
    exact l

end Cert.Precondition

end
-- ==== Proof.Finite.lean ====
/- On real inputs the cached keys and the rotated rows are real. -/
module

public import proofs.«01_k».proof.Proof.Model
public import proofs.«01_k».proof.Proof.Consts

@[expose] public section

noncomputable section

open Idealize.ShloMosaic

namespace Cert.Model

/-- A matrix of reals. -/
def RealMat (x : Mat) : Prop := ∀ r d, IsReal (x r d)

theorem top_real {N : ℕ} [NeZero N] {a : Fin N → EReal} (h : ∀ i, IsReal (a i)) : IsReal (Ranking.top a) := by
  obtain ⟨i, -, e⟩ := Finset.exists_mem_eq_sup Finset.univ Finset.univ_nonempty a
  rw [Ranking.top, e]
  exact h i

theorem below_real {N : ℕ} {a : Fin N → EReal} (h : ∀ i, IsReal (a i)) (m : EReal) (i : Fin N) : IsReal (Ranking.below a m i) := by
  unfold Ranking.below
  split
  · exact IsReal.coe _
  · exact h i

theorem peel_real {N : ℕ} [NeZero N] {a : Fin N → EReal} (h : ∀ i, IsReal (a i)) : ∀ n, IsReal (Ranking.peel a n)
  | 0 => by rw [Ranking.peel]; exact top_real h
  | n + 1 => by rw [Ranking.peel]; exact top_real (below_real h _)

theorem iso_real {x : Mat} (h : RealMat x) : RealMat (iso x) := fun r d => by
  unfold iso
  split
  · exact IsReal.zero
  · exact h r d

theorem mag_real {x : Mat} (h : RealMat x) : RealMat (mag x) := fun r d =>
  (iso_real h r d).max (iso_real h r d).neg

theorem step_real {t : EReal} (h : IsReal t) : ∃ b : ℝ, b ≠ 0 ∧ step t = (b : EReal) := by
  obtain ⟨a, rfl⟩ := h
  obtain ⟨e, he, ht⟩ := Consts.ofBits_tiny
  refine ⟨max a e * (1 / 7), (mul_pos (lt_max_of_lt_right he) (by norm_num)).ne', ?_⟩
  have hm : max (a : EReal) (e : EReal) = ((max a e : ℝ) : EReal) := (EReal.coe_strictMono.monotone.map_max).symm
  rw [step, tiny, ht, Ideal.div_coe (by norm_num), hm, ← EReal.coe_mul]

theorem quant_real {t x : EReal} (ht : IsReal t) (hx : IsReal x) : IsReal (quant t x) := by
  obtain ⟨b, hb, e⟩ := step_real ht
  rw [quant, e]
  exact ((IsReal.coe 7).min ((IsReal.coe (-8)).max (hx.div hb).round)).mul (IsReal.coe b)

theorem cache_real {x : Mat} {thr : Fin 2048 → Fin 128 → EReal} (ht : ∀ r d, IsReal (thr r d)) (h : RealMat x) :
    RealMat (cache thr x) := fun r d => by
  unfold cache
  split
  · exact h r d
  · split
    · exact iso_real h r d
    · exact quant_real (ht r d) (iso_real h r d)

theorem keyThr_real {x : Mat} (h : RealMat x) (r : Fin 2048) (d : Fin 128) : IsReal (keyThr x r d) := by
  rw [keyThr]; exact peel_real (fun r => mag_real h r d) 20

theorem rope_real {x : Mat} (h : RealMat x) : RealMat (rope x) := fun r d => by
  unfold rope
  split
  · exact ((h _ _).mul (IsReal.coe _)).sub ((h _ _).mul (IsReal.coe _))
  · exact ((h _ _).mul (IsReal.coe _)).add ((h _ _).mul (IsReal.coe _))

/-- The reals of a real matrix. -/
theorem RealMat.reals {x : Mat} (h : RealMat x) : ∃ f : Fin 2048 → Fin 128 → ℝ, ∀ r d, x r d = ((f r d : ℝ) : EReal) :=
  ⟨fun r d => (h r d).choose, fun r d => (h r d).choose_spec⟩

end Cert.Model

end
-- ==== Proof.Agree.lean ====
/- The two programs' results are the same array: on inputs the precondition admits both are causal attention of
   the rotated queries, the rotated cached keys and the cached values. -/
module

public import proofs.«01_k».proof.Proof.KernelValue
public import proofs.«01_k».proof.Proof.RefAttend
public import proofs.«01_k».proof.Proof.Precondition
public import proofs.«01_k».proof.Proof.Finite

@[expose] public section

noncomputable section

open Idealize.ShloMosaic Idealize.ShloMosaic.Pointwise Cert.Model

namespace Cert.Agree

open Cert.ReferenceIdeal Cert.ReferenceIdeal.Value

variable {V0 : Valuation τ sig (Elt Ideal)} {A B C : FVec Ideal S1x16x2048x128 .f32} {P : IVec S1x2048 32}

theorem result_eq [Cert.Pre_separated.Facts] (g : Precondition.Grants A B C P) (hA : V0 (Proc.devRef .tc main_arg0) = A)
    (hB : V0 (Proc.devRef .tc main_arg1) = B) (hC : V0 (Proc.devRef .tc main_arg2) = C)
    (hP : V0 (Proc.devRef .tc main_arg3) = P) :
    RefAttend.average (res_main_v144 V0) (RefAttend.rowSum (res_main_v144 V0)) (RefValues.recon V0)
      = KernelArray.result (F := Ideal) A B C := by
  refine funext fun i => ?_
  obtain ⟨h, r, d, rfl⟩ : ∃ h r d, i = ix3 h r d := ⟨i 0, i 1, i 2, eq_ix3 i⟩
  have eQ : RefAttend.Q V0 h = headMat A h := by rw [RefAttend.Q, hA]
  have eK : RefKeys.K V0 h = headMat B h := by rw [RefKeys.K, hB]
  have eV : RefValues.V V0 h = headMat C h := by rw [RefValues.V, hC]
  obtain ⟨q, hq⟩ := (rope_real (x := headMat A h) fun r d => g.realQ _).reals
  obtain ⟨k, hk⟩ := (rope_real (cache_real (keyThr_real (x := headMat B h) fun r d => g.realK _) fun r d => g.realK _)).reals
  refine (RefAttend.result_eq (V0 := V0) (h := h) (q := q) (k := k) ?_ ?_ ?_ ?_ ?_ r d).trans
    ?_
  · exact fun r => by rw [hP]; exact g.positions r
  · rw [eK]; exact g.keys h
  · rw [eV]; exact g.values h
  · rw [eQ]; exact hq
  · rw [eK]; exact hk
  · rw [eV]; exact (KernelValue.result_eq A B C h hq hk r d).symm

end Cert.Agree

end
-- ==== Proof.lean ====
/- The proof of the claims: the kernel, its idealization and the idealized reference run and leave their arguments as
   they were; the idealization replaces three constants by the numbers they stand for; and, on the inputs the
   precondition admits, the idealized kernel and the idealized reference give the same array. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_separated
public import proofs.«01_k».proof.Proof.KernelArray
public import proofs.«01_k».proof.Proof.Agree
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- The reference runs, keeps its arguments, and touches no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- The three constants stand for the numbers named. -/
theorem constants : Cert.preserves_Kernel_KernelIdeal :=
  ⟨IdealRules.named_const.statement Cert.KernelIdeal.κ "freq_step" .f32 0xBE135D8E#32 _ rfl,
    IdealRules.named_const.statement Cert.KernelIdeal.κ "logit_scale" .f32 0x3E0293EE#32 _ rfl,
    IdealRules.named_const.statement Cert.KernelIdeal.κ "mask" .f32 0xCE6E6B28#32 _ rfl⟩

/-- The idealized kernel and the idealized reference compute the same array. -/
theorem same_result : Cert.algebraic_KernelIdeal_ReferenceIdeal_pre_separated (hKernelIdeal := Cert.KernelIdeal.Gen.facts)
    (hReferenceIdeal := Cert.ReferenceIdeal.Gen.facts) (hPre_separated := Cert.Pre_separated.Gen.facts) := by
  intro m ρ m' ρ' hpre hagree
  refine ⟨fun c => KernelArray.result (F := Ideal) (m (c.tc.loc Cert.KernelIdeal.main_arg0)) (m (c.tc.loc Cert.KernelIdeal.main_arg1))
    (m (c.tc.loc Cert.KernelIdeal.main_arg2)), ?_, ?_⟩
  · exact (θ_run Cert.KernelIdeal.defs _ _).mono (fun _ h c => ⟨(h c).1.trans (KernelArray.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3⟩ := hagree c
    rw [RefAttend.v149_eq]
    exact Agree.result_eq (Precondition.grants (hpre c)) a0 a1 a2 a3

theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    constants,
    same_result⟩

end Cert.Proof

end
